-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 16, 64]⟩ ⟨4, ![2, 1024, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .bf16) (main_arg1 : FVec F S512x256 .bf16) (main_arg2 : FVec F S2x256x16x64 .bf16) (main_arg3 : FVec F S2x256x16x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x256x16x64 .f32 := (extf .f32 · bitsLt_bf16_f32) main_arg2
  let main_v12 : FVec F S2x256x16x64 .f32 := Host.absf main_v11
  let main_cst_2 : FVec F S_ .f32 := constant S_ .f32 0x7F800000#32
  let main_v13 : FVec F S2x256x16x64 .f32 := broadcastInDim S2x256x16x64 ![] bcast_S_S2x256x16x64 main_cst_2
  let main_v14 : IVec S2x256x16x64 1 := cmpf .olt main_v12 main_v13
  let main_c_3 : IVec S_ 1 := constantI S_ 1 1#1
  let main_v15 : IVec S_ 1 := (fun x v => Host.reduce IntOp.andi x v reducesTo_S2x256x16x64_S_d0_1_2_3 h_S_) main_v14 main_c_3
  let main_v16 : IVec S_ 1 := andi main_v10 main_v15
  main_v16
-- ==== Pre_finite_ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x1024x16x64 : S_.BroadcastsInDim S2x1024x16x64 (![] : Fin 0 → Fin S2x1024x16x64.rank)
  reducesTo_S2x1024x16x64_S_d0_1_2_3 : S2x1024x16x64.ReducesTo [0, 1, 2, 3] S_

variable [Facts]

def fn {F : FTy → Type} [FloatOps F] (main_arg0 : FVec F S2x256x512 .bf16) (main_arg1 : FVec F S512x1024 .bf16) (main_arg2 : FVec F S2x1024x16x64 .bf16) (main_arg3 : FVec F S2x1024x16x64 .bf16) (main_arg4 : FVec F S1024x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x1024x16x64 .f32 := (extf .f32 · bitsLt_bf16_f32) main_arg2
  let main_v12 : FVec F S2x1024x16x64 .f32 := Host.absf main_v11
  let main_cst_2 : FVec F S_ .f32 := constant S_ .f32 0x7F800000#32
  let main_v13 : FVec F S2x1024x16x64 .f32 := broadcastInDim S2x1024x16x64 ![] bcast_S_S2x1024x16x64 main_cst_2
  let main_v14 : IVec S2x1024x16x64 1 := cmpf .olt main_v12 main_v13
  let main_c_3 : IVec S_ 1 := constantI S_ 1 1#1
  let main_v15 : IVec S_ 1 := (fun x v => Host.reduce IntOp.andi x v reducesTo_S2x1024x16x64_S_d0_1_2_3 h_S_) main_v14 main_c_3
  let main_v16 : IVec S_ 1 := andi main_v10 main_v15
  main_v16
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S3x2x256x4x64 : Shape := ⟨5, ![3, 2, 256, 4, 64]⟩
abbrev S2x256x4x64 : Shape := ⟨4, ![2, 256, 4, 64]⟩
abbrev S4x2x256x512 : Shape := ⟨4, ![4, 2, 256, 512]⟩
abbrev S3 : Shape := ⟨1, ![3]⟩
abbrev S_ : Shape := ⟨0, ![]⟩
abbrev S1x256x4x64 : Shape := ⟨4, ![1, 256, 4, 64]⟩
abbrev S256x4x64 : Shape := ⟨3, ![256, 4, 64]⟩
abbrev S1x1x256x4x64 : Shape := ⟨5, ![1, 1, 256, 4, 64]⟩
abbrev S1 : Shape := ⟨1, ![1]⟩
abbrev S1x2x256x4x64 : Shape := ⟨5, ![1, 2, 256, 4, 64]⟩
abbrev S1x256x512 : Shape := ⟨3, ![1, 256, 512]⟩
abbrev S256x256 : Shape := ⟨2, ![256, 256]⟩
abbrev S256x64 : Shape := ⟨2, ![256, 64]⟩
abbrev S256x1x64 : Shape := ⟨3, ![256, 1, 64]⟩
abbrev S256 : Shape := ⟨1, ![256]⟩
abbrev S256x1 : Shape := ⟨2, ![256, 1]⟩
abbrev S64x512 : Shape := ⟨2, ![64, 512]⟩
abbrev S1x1x256x512 : Shape := ⟨4, ![1, 1, 256, 512]⟩
abbrev S1x2x256x512 : Shape := ⟨4, ![1, 2, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x16x64, .bf16⟩
  | .hbm, ⟨3, _⟩ => ⟨S2x256x16x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x16x64, .bf16⟩
  | .local _ .vmem, ⟨3, _⟩ => ⟨S2x256x16x64, .bf16⟩
  | .local _ .vmem, ⟨4, _⟩ => ⟨S256x512, .bf16⟩
  | .local _ .vmem, ⟨5, _⟩ => ⟨S2x256x512, .f32⟩
  | .local _ .vmem, ⟨6, _⟩ => ⟨S3x2x256x4x64, .bf16⟩
  | .local _ .vmem, ⟨7, _⟩ => ⟨S3x2x256x4x64, .bf16⟩
  | .local _ .vmem, ⟨8, _⟩ => ⟨S2x256x4x64, .bf16⟩
  | .local _ .vmem, ⟨9, _⟩ => ⟨S2x256x4x64, .bf16⟩
  | .local _ .vmem, ⟨10, _⟩ => ⟨S4x2x256x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_280 : BitVec 32 := 0#32
  let c0_i32_278 : BitVec 32 := 0#32
  let c1_i32_279 : BitVec 32 := 1#32
  let v441 : BitVec 32 := Scalar.muli c0_i32_278 c1_i32_279
  let v442 : BitVec 32 := Scalar.addi c0_i32_280 v441
  v442.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_280 : BitVec 32 := 0#32
  let c1_i32_278 : BitVec 32 := 1#32
  let c1_i32_279 : BitVec 32 := 1#32
  let v441 : BitVec 32 := Scalar.muli c1_i32_278 c1_i32_279
  let v442 : BitVec 32 := Scalar.addi c0_i32_280 v441
  v442.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_280 : BitVec 32 := 0#32
  let c2_i32_278 : BitVec 32 := 2#32
  let c1_i32_279 : BitVec 32 := 1#32
  let v441 : BitVec 32 := Scalar.muli c2_i32_278 c1_i32_279
  let v442 : BitVec 32 := Scalar.addi c0_i32_280 v441
  v442.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_280 : BitVec 32 := 0#32
  let c3_i32_278 : BitVec 32 := 3#32
  let c1_i32_279 : BitVec 32 := 1#32
  let v441 : BitVec 32 := Scalar.muli c3_i32_278 c1_i32_279
  let v442 : BitVec 32 := Scalar.addi c0_i32_280 v441
  v442.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v16 : BitVec 1 := Scalar.cmpi .eq v2 c0_i32_6
  let v17 : BitVec 32 := Scalar.extui v16
  let c0_i32_7 : BitVec 32 := 0#32
  let v18 : BitVec 1 := Scalar.cmpi .ne v17 c0_i32_7
  v18

def k0_dev5 : Nat :=
  let c0_i32_332 : BitVec 32 := 0#32
  let c1_i32_330 : BitVec 32 := 1#32
  let c1_i32_331 : BitVec 32 := 1#32
  let v471 : BitVec 32 := Scalar.muli c1_i32_330 c1_i32_331
  let v472 : BitVec 32 := Scalar.addi c0_i32_332 v471
  v472.toNat
def k0_dev6 : Nat :=
  let c0_i32_341 : BitVec 32 := 0#32
  let c2_i32_339 : BitVec 32 := 2#32
  let c1_i32_340 : BitVec 32 := 1#32
  let v477 : BitVec 32 := Scalar.muli c2_i32_339 c1_i32_340
  let v478 : BitVec 32 := Scalar.addi c0_i32_341 v477
  v478.toNat
def k0_dev7 : Nat :=
  let c0_i32_350 : BitVec 32 := 0#32
  let c3_i32_348 : BitVec 32 := 3#32
  let c1_i32_349 : BitVec 32 := 1#32
  let v483 : BitVec 32 := Scalar.muli c3_i32_348 c1_i32_349
  let v484 : BitVec 32 := Scalar.addi c0_i32_350 v483
  v484.toNat
def k0_dev8 : Nat :=
  let c0_i32_413 : BitVec 32 := 0#32
  let c1_i32_411 : BitVec 32 := 1#32
  let c1_i32_412 : BitVec 32 := 1#32
  let v519 : BitVec 32 := Scalar.muli c1_i32_411 c1_i32_412
  let v520 : BitVec 32 := Scalar.addi c0_i32_413 v519
  v520.toNat
def k0_dev9 : Nat :=
  let c0_i32_422 : BitVec 32 := 0#32
  let c2_i32_420 : BitVec 32 := 2#32
  let c1_i32_421 : BitVec 32 := 1#32
  let v525 : BitVec 32 := Scalar.muli c2_i32_420 c1_i32_421
  let v526 : BitVec 32 := Scalar.addi c0_i32_422 v525
  v526.toNat
def k0_dev10 : Nat :=
  let c0_i32_431 : BitVec 32 := 0#32
  let c3_i32_429 : BitVec 32 := 3#32
  let c1_i32_430 : BitVec 32 := 1#32
  let v531 : BitVec 32 := Scalar.muli c3_i32_429 c1_i32_430
  let v532 : BitVec 32 := Scalar.addi c0_i32_431 v531
  v532.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  let v312 : BitVec 32 := Scalar.addi v2 c1_i32_115
  let c4_i32_116 : BitVec 32 := 4#32
  let v313 : BitVec 32 := Scalar.remsi v312 c4_i32_116
  let c1_i32_121 : BitVec 32 := 1#32
  let v314 : BitVec 32 := Scalar.muli v313 c1_i32_121
  let v315 : BitVec 32 := Scalar.addi c0_i32_122 v314
  v315.toNat
def k0_dev12 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_129 : BitVec 32 := 2#32
  let v324 : BitVec 32 := Scalar.addi v2 c2_i32_129
  let c4_i32_130 : BitVec 32 := 4#32
  let v325 : BitVec 32 := Scalar.remsi v324 c4_i32_130
  let c1_i32_135 : BitVec 32 := 1#32
  let v326 : BitVec 32 := Scalar.muli v325 c1_i32_135
  let v327 : BitVec 32 := Scalar.addi c0_i32_136 v326
  v327.toNat
def k0_dev13 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v336 : BitVec 32 := Scalar.addi v2 c3_i32_143
  let c4_i32_144 : BitVec 32 := 4#32
  let v337 : BitVec 32 := Scalar.remsi v336 c4_i32_144
  let c1_i32_149 : BitVec 32 := 1#32
  let v338 : BitVec 32 := Scalar.muli v337 c1_i32_149
  let v339 : BitVec 32 := Scalar.addi c0_i32_150 v338
  v339.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x1024 : Shape := ⟨2, ![512, 1024]⟩
abbrev S2x1024x16x64 : Shape := ⟨4, ![2, 1024, 16, 64]⟩
abbrev S1024x512 : Shape := ⟨2, ![1024, 512]⟩
abbrev S2x256x1024 : Shape := ⟨3, ![2, 256, 1024]⟩
abbrev S2x256x16x64 : Shape := ⟨4, ![2, 256, 16, 64]⟩
abbrev S256 : Shape := ⟨1, ![256]⟩
abbrev S_ : Shape := ⟨0, ![]⟩
abbrev S256x1 : Shape := ⟨2, ![256, 1]⟩
abbrev S1024 : Shape := ⟨1, ![1024]⟩
abbrev S1x1024 : Shape := ⟨2, ![1, 1024]⟩
abbrev S256x1024 : Shape := ⟨2, ![256, 1024]⟩
abbrev S2x16x256x1024 : Shape := ⟨4, ![2, 16, 256, 1024]⟩
abbrev S1x1x256x1024 : Shape := ⟨4, ![1, 1, 256, 1024]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x1024x16x64, .bf16⟩
  | .hbm, ⟨3, _⟩ => ⟨S2x1024x16x64, .bf16⟩
  | .hbm, ⟨4, _⟩ => ⟨S1024x512, .bf16⟩
  | .hbm, ⟨5, _⟩ => ⟨S2x256x1024, .f32⟩
  | .hbm, ⟨6, _⟩ => ⟨S2x256x1024, .bf16⟩
  | .hbm, ⟨7, _⟩ => ⟨S2x256x16x64, .bf16⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1x1024, .i32⟩
  | .hbm, ⟨48, _⟩ => ⟨S256x1024, .i32⟩
  | .hbm, ⟨49, _⟩ => ⟨S256x1024, .i32⟩
  | .hbm, ⟨50, _⟩ => ⟨S256x1024, .i1⟩
  | .hbm, ⟨51, _⟩ => ⟨S2x16x256x1024, .f32⟩
  | .hbm, ⟨52, _⟩ => ⟨S2x16x256x1024, .bf16⟩
  | .hbm, ⟨53, _⟩ => ⟨S2x16x256x1024, .f32⟩
  | .hbm, ⟨54, _⟩ => ⟨S_, .f32⟩
  | .hbm, ⟨55, _⟩ => ⟨S2x16x256x1024, .f32⟩
  | .hbm, ⟨56, _⟩ => ⟨S2x16x256x1024, .f32⟩
  | .hbm, ⟨57, _⟩ => ⟨S1x1x256x1024, .i1⟩
  | .hbm, ⟨58, _⟩ => ⟨S_, .f32⟩
  | .hbm, ⟨59, _⟩ => ⟨S_, .f32⟩
  | .hbm, ⟨60, _⟩ => ⟨S2x16x256x1024, .i1⟩
  | .hbm, ⟨61, _⟩ => ⟨S2x16x256x1024, .f32⟩
  | .hbm, ⟨62, _⟩ => ⟨S2x16x256x1024, .f32⟩
  | .hbm, ⟨63, _⟩ => ⟨S_, .f32⟩
  | .hbm, ⟨64, _⟩ => ⟨S2x16x256, .f32⟩
  | .hbm, ⟨65, _⟩ => ⟨S2x16x256x1, .f32⟩
  | .hbm, ⟨66, _⟩ => ⟨S2x16x256x1024, .f32⟩
  | .hbm, ⟨67, _⟩ => ⟨S2x16x256x1024, .f32⟩
  | .hbm, ⟨68, _⟩ => ⟨S2x16x256x1024, .f32⟩
  | .hbm, ⟨69, _⟩ => ⟨S_, .i1⟩
  | .hbm, ⟨70, _⟩ => ⟨S256, .i1⟩
  | .hbm, ⟨71, _⟩ => ⟨S1x1x256x1, .i1⟩
  | .hbm, ⟨72, _⟩ => ⟨S_, .f32⟩
  | .hbm, ⟨73, _⟩ => ⟨S2x16x256, .f32⟩
  | .hbm, ⟨74, _⟩ => ⟨S2x16x256x1, .f32⟩
  | .hbm, ⟨75, _⟩ => ⟨S_, .f32⟩
  | .hbm, ⟨76, _⟩ => ⟨S_, .f32⟩
  | .hbm, ⟨77, _⟩ => ⟨S2x16x256x1, .i1⟩
  | .hbm, ⟨78, _⟩ => ⟨S2x16x256x1, .f32⟩
  | .hbm, ⟨79, _⟩ => ⟨S2x16x256x1, .f32⟩
  | .hbm, ⟨80, _⟩ => ⟨S2x16x256x1024, .f32⟩
  | .hbm, ⟨81, _⟩ => ⟨S2x16x256x1024, .f32⟩
  | .hbm, ⟨82, _⟩ => ⟨S1x1x256x1, .i1⟩
  | .hbm, ⟨83, _⟩ => ⟨S_, .f32⟩
  | .hbm, ⟨84, _⟩ => ⟨S_, .f32⟩
  | .hbm, ⟨85, _⟩ => ⟨S2x16x256x1024, .i1⟩
  | .hbm, ⟨86, _⟩ => ⟨S2x16x256x1024, .f32⟩
  | .hbm, ⟨87, _⟩ => ⟨S2x16x256x1024, .f32⟩
  | .hbm, ⟨88, _⟩ => ⟨S2x1024x16x64, .f32⟩
  | .hbm, ⟨89, _⟩ => ⟨S2x16x64x256, .f32⟩
  | .hbm, ⟨90, _⟩ => ⟨S2x256x16x64, .f32⟩
  | .hbm, ⟨91, _⟩ => ⟨S2x256x1024, .f32⟩
  | .hbm, ⟨92, _⟩ => ⟨S1024x512, .f32⟩
  | .hbm, ⟨93, _⟩ => ⟨S2x256x512, .f32⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Cells.lean ====
/-
# The cells of the kernel and who pays them

Four devices talk through fifteen semaphores each. This module names the semaphores, lists who raises each of them and
by how much, and proves the counting facts that the launch and the body read off those lists.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The memory the kernel works on -/

/-- The staged activations. -/
abbrev xM : Memref sig .tc .vmem S2x256x512 .bf16 := Memref.whole cc0_stg0_0
/-- The staged query weights. -/
abbrev wqM : Memref sig .tc .vmem S512x256 .bf16 := Memref.whole cc0_stg1_0
/-- The staged keys. -/
abbrev kM : Memref sig .tc .vmem S2x256x16x64 .bf16 := Memref.whole cc0_stg2_0
/-- The staged values. -/
abbrev vM : Memref sig .tc .vmem S2x256x16x64 .bf16 := Memref.whole cc0_stg3_0
/-- The staged output weights. -/
abbrev woM : Memref sig .tc .vmem S256x512 .bf16 := Memref.whole cc0_stg4_0
/-- The staged result. -/
abbrev oM : Memref sig .tc .vmem S2x256x512 .f32 := Memref.whole cc0_stg5_0
/-- The keys' send buffer. -/
abbrev skM : Memref sig .tc .vmem S3x2x256x4x64 .bf16 := Memref.whole cc0_scratch0
/-- The values' send buffer. -/
abbrev svM : Memref sig .tc .vmem S3x2x256x4x64 .bf16 := Memref.whole cc0_scratch1
/-- The keys that the device works on. -/
abbrev rkM : Memref sig .tc .vmem S2x256x4x64 .bf16 := Memref.whole cc0_scratch2
/-- The values that the device works on. -/
abbrev rvM : Memref sig .tc .vmem S2x256x4x64 .bf16 := Memref.whole cc0_scratch3
/-- The exchange buffer of the parts. -/
abbrev cbM : Memref sig .tc .vmem S4x2x256x512 .bf16 := Memref.whole cc0_scratch4

/-- Slot `j` of a send buffer is inside it. -/
theorem inb_send (j : Fin 3) : ∀ a, (![j.val, 0, 0, 0, 0] : Fin 5 → ℕ) a + S1x2x256x4x64.size a ≤ S3x2x256x4x64.size a := by
  revert j; decide
/-- Slot `o` of the exchange buffer is inside it. -/
theorem inb_comm (o : Fin 4) : ∀ a, (![o.val, 0, 0, 0] : Fin 4 → ℕ) a + S1x2x256x512.size a ≤ S4x2x256x512.size a := by
  revert o; decide

/-- Slot `j` of the two buffers device 0 sends keys and values from: the block meant for device `j + 1`. -/
abbrev skSlot (j : Fin 3) : Memref sig .tc .vmem S2x256x4x64 .bf16 :=
  (skM.slice (Rect.unit (s := S3x2x256x4x64) ![j.val, 0, 0, 0, 0] S1x2x256x4x64.size (inb_send j)) (fun _ => rfl)).squeeze
    S2x256x4x64 squeezes_S1x2x256x4x64_S2x256x4x64
/-- Slot `j` of the values' send buffer. -/
abbrev svSlot (j : Fin 3) : Memref sig .tc .vmem S2x256x4x64 .bf16 :=
  (svM.slice (Rect.unit (s := S3x2x256x4x64) ![j.val, 0, 0, 0, 0] S1x2x256x4x64.size (inb_send j)) (fun _ => rfl)).squeeze
    S2x256x4x64 squeezes_S1x2x256x4x64_S2x256x4x64
/-- Slot `o` of the exchange buffer: slots 0, 1, 2 receive the parts of the devices 1, 2, 3 places back, slot 3 holds
    the device's own part. -/
abbrev cbSlot (o : Fin 4) : Memref sig .tc .vmem S2x256x512 .bf16 :=
  (cbM.slice (Rect.unit (s := S4x2x256x512) ![o.val, 0, 0, 0] S1x2x256x512.size (inb_comm o)) (fun _ => rfl)).squeeze
    S2x256x512 squeezes_S1x2x256x512_S2x256x512

/-! ## The cells -/

/-- A device's semaphores: the entry barrier, the arrival of its keys and of its values, the departure of the keys and
    values it sends (device 0 only), the departure and the arrival of the partial results. -/
inductive Cl where
  | bar | kr | vr
  | ks (j : Fin 3) | vs (j : Fin 3)
  | dep (o : Fin 3) | arr (o : Fin 3)
  deriving DecidableEq, Fintype

/-- The barrier's semaphore. -/
abbrev barS : Sem sig := (SemArray.scalar (sig.barrier 0 rfl) : Sems sig S_).sem

/-- Counter `j` of three is inside their array. -/
theorem inb_sem (j : Fin 3) : ∀ a, (![j.val] : Fin 1 → ℕ) a + S1.size a ≤ S3.size a := by revert j; decide
/-- The `j`-th of an array of three semaphores. -/
abbrev sem3 (s : DmaSems sig S3) (j : Fin 3) : DmaSem sig :=
  ((s.slice (Rect.unit (s := S3) ![j.val] S1.size (inb_sem j))).squeeze S_ squeezes_S1_S_).sem

/-- The semaphore of each kind of cell. -/
abbrev csem : Cl → SemLoc sig
  | .bar => .reg barS
  | .kr => .dma cc0_scratch7.sem
  | .vr => .dma cc0_scratch8.sem
  | .ks j => .dma (sem3 cc0_scratch5 j)
  | .vs j => .dma (sem3 cc0_scratch6 j)
  | .dep o => .dma (sem3 cc0_scratch9 o)
  | .arr o => .dma (sem3 cc0_scratch10 o)

/-- All fifteen, in a row. -/
abbrev allCl : List Cl := [.bar, .kr, .vr, .ks 0, .ks 1, .ks 2, .vs 0, .vs 1, .vs 2, .dep 0, .dep 1, .dep 2, .arr 0, .arr 1, .arr 2]

/-- The list names every kind of cell. -/
theorem univ_cl : (Finset.univ : Finset Cl) = allCl.toFinset := by decide
/-- It names each once. -/
theorem nodup_cl : allCl.Nodup := by decide

/-- Different kinds of cells are different semaphores. -/
theorem csem_inj : Function.Injective csem := by
  have h : ∀ a b : Cl, csem a = csem b → a = b := by decide
  exact fun a b => h a b

/-- Which of the fifteen a semaphore is. -/
def idx (s : SemLoc sig) : Option Cl := allCl.find? fun k => decide (csem k = s)
/-- The kind of a cell is found back from its semaphore. -/
theorem idx_csem : ∀ k : Cl, idx (csem k) = some k := by decide

/-- A device's cell of a kind. -/
abbrev kcell (ck : Dev nD × Cl) : GSem nD τ sig := ((ck.1 : Thread nD τ), csem ck.2)

/-- Different devices or kinds have different cells. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-! ## Who pays -/

/-- Credit of one transfer of keys or values; of one partial result. -/
abbrev NK : ℕ := rkM.view.dmaCredit
/-- What the landing of a part is worth. -/
abbrev NA : ℕ := (cbSlot 0).view.dmaCredit
/-- A landing of keys or values is worth something. -/
theorem NK_pos : 0 < NK := View.dmaCredit_pos _ (by decide)
/-- A landing of a part is worth something. -/
theorem NA_pos : 0 < NA := View.dmaCredit_pos _ (by decide)

/-- What one payment to a cell is worth. -/
def amt : Cl → ℕ
  | .bar => 1
  | .kr | .vr | .ks _ | .vs _ => NK
  | .dep _ | .arr _ => NA
/-- Every payment is worth something. -/
theorem amt_pos (k : Cl) : 0 < amt k := by
  cases k <;> first | exact Nat.one_pos | exact NK_pos | exact NA_pos

/-- The other devices, whose barriers device `c` signals, from device `n` on. -/
abbrev others (c : Dev nD) (n : ℕ) : List (Dev nD) := ([0, 1, 2, 3] : List (Dev nD)).filter fun t => decide (n ≤ t.val ∧ t ≠ c)
/-- The barrier signals that device `c` still owes from device `n` on. -/
abbrev bars (c : Dev nD) (n : ℕ) : List (Dev nD × Cl) := (others c n).map fun t => (t, .bar)
/-- The arrivals of the keys and values that device 0 sends. -/
abbrev scat : List (Dev nD × Cl) := [(1, .kr), (2, .kr), (3, .kr), (1, .vr), (2, .vr), (3, .vr)]
/-- The arrivals of device `c`'s partial result. -/
abbrev arrs (c : Dev nD) : List (Dev nD × Cl) := [(c + 1, .arr 0), (c + 2, .arr 1), (c + 3, .arr 2)]
/-- What device `c` owes after the barrier, and at launch. -/
abbrev due1 (c : Dev nD) : List (Dev nD × Cl) := (if c = 0 then scat else []) ++ arrs c
/-- All that device `c` owes at the start. -/
abbrev due0 (c : Dev nD) : List (Dev nD × Cl) := bars c 0 ++ due1 c
/-- The departures device `c` pays itself. -/
abbrev deps (c : Dev nD) : List (Dev nD × Cl) := [(c, .dep 0), (c, .dep 1), (c, .dep 2)]
/-- The departures of the six copies of device 0. -/
abbrev scatDeps : List (Dev nD × Cl) := [(0, .ks 0), (0, .ks 1), (0, .ks 2), (0, .vs 0), (0, .vs 1), (0, .vs 2)]
/-- The departures that a device pays to itself. -/
abbrev selfs (c : Dev nD) : List (Dev nD × Cl) := (if c = 0 then scatDeps else []) ++ deps c
/-- All payments of device `c`. -/
abbrev pays (c : Dev nD) : List (Dev nD × Cl) := due0 c ++ selfs c

/-- No device pays a cell twice. -/
theorem pays_nodup : ∀ c : Dev nD, (pays c).Nodup := by decide

/-- Who pays cell `k` of device `t`. -/
def payers (t : Dev nD) (k : Cl) : Finset (Dev nD) := Finset.univ.filter fun d => (t, k) ∈ pays d

/-- The other three devices signal a device's barrier. -/
theorem payers_bar : ∀ c : Dev nD, payers c .bar = {c + 1, c + 2, c + 3} := by decide
/-- No device is listed twice. -/
theorem payers_bar_nodup : ∀ c : Dev nD, ([c + 1, c + 2, c + 3] : List (Dev nD)).Nodup := by decide
/-- Slot `o` of a device's exchange buffer is filled by one device. -/
theorem payers_arr : ∀ (c : Dev nD) (o : Fin 3), payers c (.arr o) = {c - (o.castSucc + 1)} := by decide
/-- A device pays for the departures of its own parts. -/
theorem payers_dep : ∀ (c : Dev nD) (o : Fin 3), payers c (.dep o) = {c} := by decide
/-- Device 0 sends the keys. -/
theorem payers_kr : ∀ c : Dev nD, c ≠ 0 → payers c .kr = {0} := by decide
/-- Device 0 sends the values. -/
theorem payers_vr : ∀ c : Dev nD, c ≠ 0 → payers c .vr = {0} := by decide
/-- Device 0 pays for the departures of its keys. -/
theorem payers_ks : ∀ j : Fin 3, payers 0 (.ks j) = {0} := by decide
/-- Device 0 pays for the departures of its values. -/
theorem payers_vs : ∀ j : Fin 3, payers 0 (.vs j) = {0} := by decide
/-- Nobody sends keys to device 0. -/
theorem payers_kr0 : payers 0 .kr = ∅ := by decide
/-- Nobody sends values to device 0. -/
theorem payers_vr0 : payers 0 .vr = ∅ := by decide
/-- The other devices send no keys. -/
theorem payers_ks_none : ∀ (c : Dev nD) (j : Fin 3), c ≠ 0 → payers c (.ks j) = ∅ := by decide
/-- The other devices send no values. -/
theorem payers_vs_none : ∀ (c : Dev nD) (j : Fin 3), c ≠ 0 → payers c (.vs j) = ∅ := by decide

/-! ## What is owed -/

/-- The sum of the payments of a list; its head is the last summand. -/
def owed : List (Dev nD × Cl) → CellTallies nD τ sig Unit
  | [] => 0
  | ck :: l => owed l + tallyAt (kcell ck) () (amt ck.2)

/-- A payment in front adds its worth to what is owed. -/
theorem owed_cons (ck : Dev nD × Cl) (l : List (Dev nD × Cl)) : owed (ck :: l) = owed l + tallyAt (kcell ck) () (amt ck.2) := rfl

/-- What is owed to a cell is its count in the list, each at its worth. -/
theorem owed_at (ck : Dev nD × Cl) (l : List (Dev nD × Cl)) : owed l (kcell ck) () = l.count ck * amt ck.2 := by
  induction l with
  | nil => simp [owed]
  | cons x l ih =>
    rw [owed_cons, Pi.add_apply, Finsupp.add_apply, ih, tallyAt_apply, List.count_cons]
    by_cases h : x = ck
    · subst h; rw [if_pos ⟨rfl, rfl⟩]; simp [Nat.add_mul]
    · rw [if_neg fun h' => h (kcell_inj h'.1).symm]; simp [h]

/-- What is owed to is in the list. -/
theorem owed_pos {l : List (Dev nD × Cl)} {g : GSem nD τ sig} {u : Unit} (h : 0 < owed l g u) : ∃ ck ∈ l, g = kcell ck := by
  induction l with
  | nil => exact absurd h (by simp [owed])
  | cons x l ih =>
    rw [owed_cons, Pi.add_apply, Finsupp.add_apply, tallyAt_apply] at h
    by_cases hg : g = kcell x
    · exact ⟨x, List.mem_cons_self, hg⟩
    · rw [if_neg fun h' => hg h'.1, Nat.add_zero] at h
      obtain ⟨ck, hm, he⟩ := ih h
      exact ⟨ck, List.mem_cons_of_mem _ hm, he⟩

/-- What device `c` owes at launch. -/
def O₀ (c : Dev nD) : CellTallies nD τ sig Unit := owed (due0 c)

/-- How many payments cell `k` of device `c` is owed at launch: its payers', unless it pays itself in passing. -/
theorem due_count : ∀ (c : Dev nD) (k : Cl), (∑ d : Dev nD, (due0 d).count (c, k)) =
    match k with | .bar => 3 | .kr | .vr => if c = 0 then 0 else 1 | .arr _ => 1 | _ => 0 := by decide

/-! ## The order of the cells -/

/-- Barriers below the arrivals of keys and values, those below the arrivals of partial results; all other waits come
    when nothing below is owed. -/
def rank : Cl → ℕ
  | .bar => 1 | .kr | .vr => 2 | .arr _ => 3 | _ => 0

/-- The rank of a cell, for the order of the waits. -/
def lv (g : GSem nD τ sig) (_ : Unit) : ℕ := match idx g.2 with | some k => rank k | none => 0
/-- The cells that the order speaks of are the TensorCores'. -/
def L (g : GSem nD τ sig) : Finset Unit := if g.1.2 = .tc then {()} else ∅

/-- The rank of a device's cell is the rank of its kind. -/
theorem lv_kcell (ck : Dev nD × Cl) (u : Unit) : lv (kcell ck) u = rank ck.2 := by
  unfold lv; rw [idx_csem]
/-- Cells of other cores have no rank. -/
theorem L_of_ne (g : GSem nD τ sig) (h : g.1.2 ≠ .tc) : L g = ∅ := if_neg h
/-- Every cell of a TensorCore has one. -/
theorem L_tc (c : Dev nD) (sm : SemLoc sig) : L ((c : Thread nD τ), sm) = {()} := if_pos rfl

end Cert.Attn

end
-- ==== Proof.Contents.lean ====
/-
# What the buffers hold

The blocks each device reads, what it gets of the keys and values, the part it computes from them, and what each buffer
of the exchange holds when it changes hands. Each content is written once as a function of the memory at launch; the
lemmas here say that the kernel's stores, loads and copies produce exactly these.
-/
module

public import proofs.«01_k».proof.Proof.Cells
public import Idealize.ShloMosaic.Lib.ValueIdxCore
public import Idealize.ShloMosaic.Lib.Pipeline.Value

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-! ## Stores through a rectangle of a whole buffer -/

omit [FloatOps F] [Named F] in
/-- A store through a unit-stride rectangle of a whole buffer, read at a place inside it: the stored value. -/
theorem store_hit (b : Ref sig .tc) {off size : Fin b.ty.shape.rank → ℕ} (inb : ∀ a, off a + size a ≤ b.ty.shape.size a)
    (f : b.ty.Contents (Elt F)) (w : (Rect.unit off size inb).shape.Idx → Elt F b.ty.elt) (i : b.ty.shape.Idx)
    (x : (Rect.unit off size inb).shape.Idx) (h : ∀ a, (i a).val = off a + (x a).val) :
    ((Memref.whole b).access (Rect.unit off size inb)).write (Elt F) f w Finset.univ i = w x := by
  have hi : i = ((Memref.whole b).access (Rect.unit off size inb)).emb x := by
    funext a
    apply Fin.ext
    show (i a).val = off a + 1 * (x a).val
    rw [h a, Nat.one_mul]
  rw [hi, View.write_emb_of_mem (h := Finset.mem_univ _)]
  rfl

omit [FloatOps F] [Named F] in
/-- The same store read at a place outside the rectangle: the old contents. -/
theorem store_miss (b : Ref sig .tc) {off size : Fin b.ty.shape.rank → ℕ} (inb : ∀ a, off a + size a ≤ b.ty.shape.size a)
    (f : b.ty.Contents (Elt F)) (w : (Rect.unit off size inb).shape.Idx → Elt F b.ty.elt) (i : b.ty.shape.Idx)
    (a : Fin b.ty.shape.rank) (h : ¬ (off a ≤ (i a).val ∧ (i a).val < off a + size a)) :
    ((Memref.whole b).access (Rect.unit off size inb)).write (Elt F) f w Finset.univ i = f i := by
  refine View.write_of_not_mem (h := fun hm => h ?_) ..
  have hm' : i ∈ (Rect.unit off size inb).set := by
    have := View.setOn_subset_set _ _ hm
    rwa [show ((Memref.whole b).access (Rect.unit off size inb)).set = (Rect.unit off size inb).set from View.set_slice_whole _ _] at this
  exact Rect.mem_set_unit.mp hm' a

omit [FloatOps F] [Named F] in
/-- A store of one (slot, batch) block of the buffer device 0 sends keys from. -/
theorem sk_store (j b : ℕ) {off : Fin 5 → ℕ} (ho : off = ![j, b, 0, 0, 0])
    (inb : ∀ a, off a + S1x1x256x4x64.size a ≤ S3x2x256x4x64.size a) (f : Vec F S3x2x256x4x64 .bf16) (w : Vec F S1x1x256x4x64 .bf16)
    (i : S3x2x256x4x64.Idx) :
    (skM.access (Rect.unit (s := S3x2x256x4x64) off S1x1x256x4x64.size inb)).write (Elt F) f w Finset.univ i
      = if (i 0).val = j ∧ (i 1).val = b then w (ix5 0 0 (i 2) (i 3) (i 4)) else f i := by
  subst ho
  split
  · rename_i h
    exact store_hit cc0_scratch0 inb f w i (ix5 0 0 (i 2) (i 3) (i 4)) (fun a => match a with
      | ⟨0, _⟩ => h.1 | ⟨1, _⟩ => h.2 | ⟨2, _⟩ => (Nat.zero_add _).symm | ⟨3, _⟩ => (Nat.zero_add _).symm | ⟨4, _⟩ => (Nat.zero_add _).symm)
  · rename_i h
    by_cases h0 : (i 0).val = j
    · refine store_miss cc0_scratch0 inb f w i (1 : Fin 5) (fun hc => h ⟨h0, ?_⟩)
      have h1 : b ≤ (i 1).val ∧ (i 1).val < b + 1 := hc
      omega
    · refine store_miss cc0_scratch0 inb f w i (0 : Fin 5) (fun hc => h0 ?_)
      have h1 : j ≤ (i 0).val ∧ (i 0).val < j + 1 := hc
      omega

omit [FloatOps F] [Named F] in
/-- The same for the buffer device 0 sends values from. -/
theorem sv_store (j b : ℕ) {off : Fin 5 → ℕ} (ho : off = ![j, b, 0, 0, 0])
    (inb : ∀ a, off a + S1x1x256x4x64.size a ≤ S3x2x256x4x64.size a) (f : Vec F S3x2x256x4x64 .bf16) (w : Vec F S1x1x256x4x64 .bf16)
    (i : S3x2x256x4x64.Idx) :
    (svM.access (Rect.unit (s := S3x2x256x4x64) off S1x1x256x4x64.size inb)).write (Elt F) f w Finset.univ i
      = if (i 0).val = j ∧ (i 1).val = b then w (ix5 0 0 (i 2) (i 3) (i 4)) else f i := by
  subst ho
  split
  · rename_i h
    exact store_hit cc0_scratch1 inb f w i (ix5 0 0 (i 2) (i 3) (i 4)) (fun a => match a with
      | ⟨0, _⟩ => h.1 | ⟨1, _⟩ => h.2 | ⟨2, _⟩ => (Nat.zero_add _).symm | ⟨3, _⟩ => (Nat.zero_add _).symm | ⟨4, _⟩ => (Nat.zero_add _).symm)
  · rename_i h
    by_cases h0 : (i 0).val = j
    · refine store_miss cc0_scratch1 inb f w i (1 : Fin 5) (fun hc => h ⟨h0, ?_⟩)
      have h1 : b ≤ (i 1).val ∧ (i 1).val < b + 1 := hc
      omega
    · refine store_miss cc0_scratch1 inb f w i (0 : Fin 5) (fun hc => h0 ?_)
      have h1 : j ≤ (i 0).val ∧ (i 0).val < j + 1 := hc
      omega

omit [FloatOps F] [Named F] in
/-- A store of one batch of the buffer a device keeps its keys in. -/
theorem rk_store (b : ℕ) {off : Fin 4 → ℕ} (ho : off = ![b, 0, 0, 0])
    (inb : ∀ a, off a + S1x256x4x64.size a ≤ S2x256x4x64.size a) (f : Vec F S2x256x4x64 .bf16) (w : Vec F S1x256x4x64 .bf16)
    (i : S2x256x4x64.Idx) :
    (rkM.access (Rect.unit (s := S2x256x4x64) off S1x256x4x64.size inb)).write (Elt F) f w Finset.univ i
      = if (i 0).val = b then w (ix4 0 (i 1) (i 2) (i 3)) else f i := by
  subst ho
  split
  · rename_i h
    exact store_hit cc0_scratch2 inb f w i (ix4 0 (i 1) (i 2) (i 3)) (fun a => match a with
      | ⟨0, _⟩ => h | ⟨1, _⟩ => (Nat.zero_add _).symm | ⟨2, _⟩ => (Nat.zero_add _).symm | ⟨3, _⟩ => (Nat.zero_add _).symm)
  · rename_i h
    refine store_miss cc0_scratch2 inb f w i (0 : Fin 4) (fun hc => h ?_)
    have h1 : b ≤ (i 0).val ∧ (i 0).val < b + 1 := hc
    omega

omit [FloatOps F] [Named F] in
/-- The same for the buffer a device keeps its values in. -/
theorem rv_store (b : ℕ) {off : Fin 4 → ℕ} (ho : off = ![b, 0, 0, 0])
    (inb : ∀ a, off a + S1x256x4x64.size a ≤ S2x256x4x64.size a) (f : Vec F S2x256x4x64 .bf16) (w : Vec F S1x256x4x64 .bf16)
    (i : S2x256x4x64.Idx) :
    (rvM.access (Rect.unit (s := S2x256x4x64) off S1x256x4x64.size inb)).write (Elt F) f w Finset.univ i
      = if (i 0).val = b then w (ix4 0 (i 1) (i 2) (i 3)) else f i := by
  subst ho
  split
  · rename_i h
    exact store_hit cc0_scratch3 inb f w i (ix4 0 (i 1) (i 2) (i 3)) (fun a => match a with
      | ⟨0, _⟩ => h | ⟨1, _⟩ => (Nat.zero_add _).symm | ⟨2, _⟩ => (Nat.zero_add _).symm | ⟨3, _⟩ => (Nat.zero_add _).symm)
  · rename_i h
    refine store_miss cc0_scratch3 inb f w i (0 : Fin 4) (fun hc => h ?_)
    have h1 : b ≤ (i 0).val ∧ (i 0).val < b + 1 := hc
    omega

omit [FloatOps F] [Named F] in
/-- A store of one (slot, batch) block of the exchange buffer. -/
theorem cb_store (o b : ℕ) {off : Fin 4 → ℕ} (ho : off = ![o, b, 0, 0])
    (inb : ∀ a, off a + S1x1x256x512.size a ≤ S4x2x256x512.size a) (f : Vec F S4x2x256x512 .bf16) (w : Vec F S1x1x256x512 .bf16)
    (i : S4x2x256x512.Idx) :
    (cbM.access (Rect.unit (s := S4x2x256x512) off S1x1x256x512.size inb)).write (Elt F) f w Finset.univ i
      = if (i 0).val = o ∧ (i 1).val = b then w (ix4 0 0 (i 2) (i 3)) else f i := by
  subst ho
  split
  · rename_i h
    exact store_hit cc0_scratch4 inb f w i (ix4 0 0 (i 2) (i 3)) (fun a => match a with
      | ⟨0, _⟩ => h.1 | ⟨1, _⟩ => h.2 | ⟨2, _⟩ => (Nat.zero_add _).symm | ⟨3, _⟩ => (Nat.zero_add _).symm)
  · rename_i h
    by_cases h0 : (i 0).val = o
    · refine store_miss cc0_scratch4 inb f w i (1 : Fin 4) (fun hc => h ⟨h0, ?_⟩)
      have h1 : b ≤ (i 1).val ∧ (i 1).val < b + 1 := hc
      omega
    · refine store_miss cc0_scratch4 inb f w i (0 : Fin 4) (fun hc => h0 ?_)
      have h1 : o ≤ (i 0).val ∧ (i 0).val < o + 1 := hc
      omega

omit [FloatOps F] [Named F] in
/-- A store of one batch of the result. -/
theorem out_store (b : ℕ) {off : Fin 3 → ℕ} (ho : off = ![b, 0, 0])
    (inb : ∀ a, off a + S1x256x512.size a ≤ S2x256x512.size a) (f : Vec F S2x256x512 .f32) (w : Vec F S1x256x512 .f32)
    (i : S2x256x512.Idx) :
    (oM.access (Rect.unit (s := S2x256x512) off S1x256x512.size inb)).write (Elt F) f w Finset.univ i
      = if (i 0).val = b then w (ix3 0 (i 1) (i 2)) else f i := by
  subst ho
  split
  · rename_i h
    exact store_hit cc0_stg5_0 inb f w i (ix3 0 (i 1) (i 2)) (fun a => match a with
      | ⟨0, _⟩ => h | ⟨1, _⟩ => (Nat.zero_add _).symm | ⟨2, _⟩ => (Nat.zero_add _).symm)
  · rename_i h
    refine store_miss cc0_stg5_0 inb f w i (0 : Fin 3) (fun hc => h ?_)
    have h1 : b ≤ (i 0).val ∧ (i 0).val < b + 1 := hc
    omega

/-! ## The slots of the exchange and send buffers -/

/-- Where a slot of the exchange buffer lies. -/
theorem cb_emb (o : Fin 4) (x : S2x256x512.Idx) : (cbSlot o).view.emb x = ix4 o (x 0) (x 1) (x 2) := by
  have e : Shape.reshapeEquiv (s := S1x2x256x512) (s' := S2x256x512) squeezes_S1x2x256x512_S2x256x512.numel_eq x = ix4 (0 : Fin 1) (x 0) (x 1) (x 2) := by
    refine Shape.reshapeEquiv_eq_of_rowMajor _ ?_
    refine (Shape.rowMajor_val_four (d := ![1, 2, 256, 512]) _).trans (Eq.trans ?_ (Shape.rowMajor_val_three (d := ![2, 256, 512]) x).symm)
    show ((0 * 2 + (x 0).val) * 256 + (x 1).val) * 512 + (x 2).val = ((x 0).val * 256 + (x 1).val) * 512 + (x 2).val
    rw [Nat.zero_mul, Nat.zero_add]
  show (Rect.unit (s := S4x2x256x512) ![o.val, 0, 0, 0] S1x2x256x512.size (inb_comm o)).emb (Shape.reshapeEquiv (s := S1x2x256x512) (s' := S2x256x512) squeezes_S1x2x256x512_S2x256x512.numel_eq x) = _
  rw [e]
  funext a
  apply Fin.ext
  match a with
  | ⟨0, _⟩ => show o.val + 1 * 0 = o.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega

/-- Where a slot of device 0's key buffer lies. -/
theorem sk_emb (j : Fin 3) (x : S2x256x4x64.Idx) : (skSlot j).view.emb x = ix5 j (x 0) (x 1) (x 2) (x 3) := by
  have e : Shape.reshapeEquiv (s := S1x2x256x4x64) (s' := S2x256x4x64) squeezes_S1x2x256x4x64_S2x256x4x64.numel_eq x = ix5 (0 : Fin 1) (x 0) (x 1) (x 2) (x 3) := by
    refine Shape.reshapeEquiv_eq_of_rowMajor _ ?_
    refine (Shape.rowMajor_val_five (d := ![1, 2, 256, 4, 64]) _).trans (Eq.trans ?_ (Shape.rowMajor_val_four (d := ![2, 256, 4, 64]) x).symm)
    show (((0 * 2 + (x 0).val) * 256 + (x 1).val) * 4 + (x 2).val) * 64 + (x 3).val
      = (((x 0).val * 256 + (x 1).val) * 4 + (x 2).val) * 64 + (x 3).val
    rw [Nat.zero_mul, Nat.zero_add]
  show (Rect.unit (s := S3x2x256x4x64) ![j.val, 0, 0, 0, 0] S1x2x256x4x64.size (inb_send j)).emb (Shape.reshapeEquiv (s := S1x2x256x4x64) (s' := S2x256x4x64) squeezes_S1x2x256x4x64_S2x256x4x64.numel_eq x) = _
  rw [e]
  funext a
  apply Fin.ext
  match a with
  | ⟨0, _⟩ => show j.val + 1 * 0 = j.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega
  | ⟨4, _⟩ => show 0 + 1 * (x 3).val = (x 3).val; omega

/-- The values' slots lie as the keys' do. -/
theorem sv_emb (j : Fin 3) (x : S2x256x4x64.Idx) : (svSlot j).view.emb x = ix5 j (x 0) (x 1) (x 2) (x 3) := sk_emb j x

/-- The places of an exchange slot. -/
abbrev cbSet (o : Fin 4) : Finset S4x2x256x512.Idx := (cbSlot o).view.set
/-- The places of a send slot (the same in both send buffers). -/
abbrev skSet (j : Fin 3) : Finset S3x2x256x4x64.Idx := (skSlot j).view.set
/-- The places of slot `j` of the values' send buffer. -/
abbrev svSet (j : Fin 3) : Finset S3x2x256x4x64.Idx := (svSlot j).view.set

/-- A slot of the exchange buffer is what has its number in front. -/
theorem mem_cbSet (o : Fin 4) (i : S4x2x256x512.Idx) : i ∈ cbSet o ↔ i 0 = o := by
  constructor
  · intro h
    obtain ⟨x, -, hx⟩ := Finset.mem_map.mp h
    rw [← hx, cb_emb]
  · intro h
    refine Finset.mem_map.mpr ⟨ix3 (i 1) (i 2) (i 3), Finset.mem_univ _, ?_⟩
    rw [cb_emb, ← h]
    exact (eq_ix4 i).symm

/-- A slot of the keys' send buffer is what has its number in front. -/
theorem mem_skSet (j : Fin 3) (i : S3x2x256x4x64.Idx) : i ∈ skSet j ↔ i 0 = j := by
  constructor
  · intro h
    obtain ⟨x, -, hx⟩ := Finset.mem_map.mp h
    rw [← hx, sk_emb]
  · intro h
    refine Finset.mem_map.mpr ⟨ix4 (i 1) (i 2) (i 3) (i 4), Finset.mem_univ _, ?_⟩
    rw [sk_emb, ← h]
    exact (eq_ix5 i).symm

/-- A slot of the values' send buffer is what has its number in front. -/
theorem mem_svSet (j : Fin 3) (i : S3x2x256x4x64.Idx) : i ∈ svSet j ↔ i 0 = j := mem_skSet j i

/-- Different slots of the exchange buffer share nothing. -/
theorem cbSet_disjoint : ∀ o o', o ≠ o' → Disjoint (cbSet o) (cbSet o') := fun o o' h =>
  Finset.disjoint_left.mpr fun i hi hi' => h (((mem_cbSet o i).mp hi).symm.trans ((mem_cbSet o' i).mp hi'))
/-- The four slots are the whole exchange buffer. -/
theorem cbSet_cover : Finset.univ.biUnion cbSet = Finset.univ :=
  Finset.eq_univ_of_forall fun i => Finset.mem_biUnion.mpr ⟨i 0, Finset.mem_univ _, (mem_cbSet _ i).mpr rfl⟩
/-- Different slots of a send buffer share nothing. -/
theorem skSet_disjoint : ∀ j j', j ≠ j' → Disjoint (skSet j) (skSet j') := fun j j' h =>
  Finset.disjoint_left.mpr fun i hi hi' => h (((mem_skSet j i).mp hi).symm.trans ((mem_skSet j' i).mp hi'))
/-- The three slots are the whole send buffer. -/
theorem skSet_cover : Finset.univ.biUnion skSet = Finset.univ :=
  Finset.eq_univ_of_forall fun i => Finset.mem_biUnion.mpr ⟨i 0, Finset.mem_univ _, (mem_skSet _ i).mpr rfl⟩

/-! ## What each device computes from -/

variable (m : (ℓ : Loc nD τ sig) → Buf (Elt F) ℓ)

/-- Device `c`'s staged inputs: the activations, its columns of the query weights, its blocks of the keys and values, its
    rows of the output weights. -/
def xs (c : Dev nD) : Vec F S2x256x512 .bf16 := (win0_0.blk (0 : Fin 1)).view.read (Elt F) (m ((c : Thread nD τ).loc main_arg0))
/-- The staged query weights. -/
def wqs (c : Dev nD) : Vec F S512x256 .bf16 := (win0_1.blk (0 : Fin 1)).view.read (Elt F) (m ((c : Thread nD τ).loc main_arg1))
/-- The staged keys. -/
def ks (c : Dev nD) : Vec F S2x256x16x64 .bf16 := (win0_2.blk (0 : Fin 1)).view.read (Elt F) (m ((c : Thread nD τ).loc main_arg2))
/-- The staged values. -/
def vs (c : Dev nD) : Vec F S2x256x16x64 .bf16 := (win0_3.blk (0 : Fin 1)).view.read (Elt F) (m ((c : Thread nD τ).loc main_arg3))
/-- The staged output weights. -/
def wos (c : Dev nD) : Vec F S256x512 .bf16 := (win0_4.blk (0 : Fin 1)).view.read (Elt F) (m ((c : Thread nD τ).loc main_arg4))

/-- Head `h` of device `t` is one of the sixteen. -/
theorem head_lt (t : Fin 4) (h : Fin 4) : 4 * t.val + h.val < 16 := by omega

/-- The four heads meant for device `t` of device 0's block. -/
def headsOf (t : Fin 4) (X : Vec F S2x256x16x64 .bf16) : Vec F S2x256x4x64 .bf16 :=
  fun i => X (ix4 (i 0) (i 1) ⟨4 * t.val + (i 2).val, head_lt t (i 2)⟩ (i 3))

/-- The keys and the values device `t` works with. -/
def kdata (t : Dev nD) : Vec F S2x256x4x64 .bf16 := headsOf t (ks m 0)
/-- Device `t`'s heads of device 0's values. -/
def vdata (t : Dev nD) : Vec F S2x256x4x64 .bf16 := headsOf t (vs m 0)

/-- A send buffer filled from `X`: slot `j` holds the heads of device `j + 1`. -/
def sendOf (X : Vec F S2x256x16x64 .bf16) : Vec F S3x2x256x4x64 .bf16 := fun i => headsOf (i 0).succ X (ix4 (i 1) (i 2) (i 3) (i 4))

/-! ## The part a device computes -/

section Part
variable (wq : Vec F S512x256 .bf16) (wo : Vec F S256x512 .bf16) (x0 x1 : Vec F S1x256x512 .bf16)
  (k0 k1 v0 v1 : Vec F S1x256x4x64 .bf16)

/-- Whether a query may look at a key. -/
def maskV : IVec S256x256 1 := k0_pay29 k0_pay24 k0_pay25 k0_pay26 k0_pay27 k0_pay28
/-- The queries of the two batches. -/
def q0V : FVec F S256x256 .f32 := k0_pay21 wq x0
/-- The queries of batch 1. -/
def q1V : FVec F S256x256 .f32 := k0_pay23 (k0_pay19 wq) (k0_pay22 x1)

/-- The attention weights of the four heads, batch 0. -/
def w00 : FVec F S256x256 .bf16 := k0_pay31 (q0V wq x0) k0_pay24 k0_pay25 k0_pay26 k0_pay27 k0_pay28 k0
/-- The weights of batch 0, head 1. -/
def w01 : FVec F S256x256 .bf16 := k0_pay33 (k0_pay32 (q0V wq x0) k0_pay24 k0_pay25 k0_pay26 k0_pay27 k0_pay28 k0)
/-- The weights of batch 0, head 2. -/
def w02 : FVec F S256x256 .bf16 := k0_pay34 (q0V wq x0) maskV (k0_pay30 k0)
/-- The weights of batch 0, head 3. -/
def w03 : FVec F S256x256 .bf16 := k0_pay35 (q0V wq x0) maskV (k0_pay30 k0)
/-- The attention weights of the four heads, batch 1. -/
def w10 : FVec F S256x256 .bf16 := k0_pay37 (q1V wq x1) maskV k1
/-- The weights of batch 1, head 1. -/
def w11 : FVec F S256x256 .bf16 := k0_pay38 (q1V wq x1) maskV k1
/-- The weights of batch 1, head 2. -/
def w12 : FVec F S256x256 .bf16 := k0_pay41 maskV (k0_pay39 (q1V wq x1) k1) k0_pay40
/-- The weights of batch 1, head 3. -/
def w13 : FVec F S256x256 .bf16 := k0_pay42 (q1V wq x1) maskV (k0_pay36 k1)

/-- The device's part of the result, batch 0 and batch 1. -/
def part0 : FVec F S1x1x256x512 .bf16 :=
  k0_pay45 (k0_pay20 wo) (w01 wq x0 k0) (w02 wq x0 k0) (w03 wq x0 k0) (k0_pay43 v0) (k0_pay44 (k0_pay20 wo) (w00 wq x0 k0) v0)
/-- The part of batch 1. -/
def part1 : FVec F S1x1x256x512 .bf16 :=
  k0_pay50 (k0_pay20 wo) (w12 wq x1 k1) (w13 wq x1 k1) (k0_pay46 v1) (k0_pay47 (k0_pay20 wo) (w10 wq x1 k1) v1)
    (k0_pay48 (w11 wq x1 k1) v1) (k0_pay49 (k0_pay20 wo)) (constant S256x512 .f32 0x00000000#32)

end Part

/-- What the loads of a device read. -/
def ldx (b : ℕ) (inb : ∀ a, (![b, 0, 0] : Fin 3 → ℕ) a + S1x256x512.size a ≤ S2x256x512.size a) (X : Vec F S2x256x512 .bf16) : Vec F S1x256x512 .bf16 :=
  xM.view.readAt (Elt F) (Rect.unit (s := S2x256x512) ![b, 0, 0] S1x256x512.size inb).toLoadRect X
/-- A load of one batch of the keys or values. -/
def ldk (b : ℕ) (inb : ∀ a, (![b, 0, 0, 0] : Fin 4 → ℕ) a + S1x256x4x64.size a ≤ S2x256x4x64.size a) (X : Vec F S2x256x4x64 .bf16) : Vec F S1x256x4x64 .bf16 :=
  rkM.view.readAt (Elt F) (Rect.unit (s := S2x256x4x64) ![b, 0, 0, 0] S1x256x4x64.size inb).toLoadRect X
/-- A load of one batch of one slot of the exchange buffer. -/
def ldcb (o b : ℕ) (inb : ∀ a, (![o, b, 0, 0] : Fin 4 → ℕ) a + S1x1x256x512.size a ≤ S4x2x256x512.size a) (X : Vec F S4x2x256x512 .bf16) : Vec F S1x1x256x512 .bf16 :=
  cbM.view.readAt (Elt F) (Rect.unit (s := S4x2x256x512) ![o, b, 0, 0] S1x1x256x512.size inb).toLoadRect X

/-- Device `c`'s part of the result. -/
def p0 (c : Dev nD) : FVec F S1x1x256x512 .bf16 :=
  part0 (wqs m c) (wos m c) (ldx 0 inb_S2x256x512_S1x256x512_0_0_0 (xs m c))
    (ldk 0 inb_S2x256x4x64_S1x256x4x64_0_0_0_0 (kdata m c)) (ldk 0 inb_S2x256x4x64_S1x256x4x64_0_0_0_0 (vdata m c))
/-- Device `c`'s part of batch 1. -/
def p1 (c : Dev nD) : FVec F S1x1x256x512 .bf16 :=
  part1 (wqs m c) (wos m c) (ldx 1 inb_S2x256x512_S1x256x512_1_0_0 (xs m c))
    (ldk 1 inb_S2x256x4x64_S1x256x4x64_1_0_0_0 (kdata m c)) (ldk 1 inb_S2x256x4x64_S1x256x4x64_1_0_0_0 (vdata m c))

/-- The exchange buffer with device `d`'s part in every slot. -/
def allP (d : Dev nD) : Vec F S4x2x256x512 .bf16 :=
  fun i => if (i 1).val = 0 then p0 m d (ix4 0 0 (i 2) (i 3)) else p1 m d (ix4 0 0 (i 2) (i 3))

/-- What slot `o` of device `c`'s exchange buffer holds at the end. -/
def slotP (c : Dev nD) (o : Fin 4) : Vec F S4x2x256x512 .bf16 := allP m (c - (o + 1))

/-- The result device `c` stores. -/
def outP (c : Dev nD) : Vec F S2x256x512 .f32 := fun i =>
  if (i 0).val = 1 then
    k0_pay53 (k0_pay52 (p1 m (c - 1)) (p1 m (c - 2))) (p1 m (c - 3)) (p1 m c) (ix3 0 (i 1) (i 2))
  else k0_pay51 (p0 m (c - 1)) (p0 m (c - 2)) (p0 m (c - 3)) (p0 m c) (ix3 0 (i 1) (i 2))

/-- The two batches of a device's part, read back from any slot. -/
theorem ldcb_allP0 (o : ℕ) (inb) (d : Dev nD) : ldcb o 0 inb (allP m d) = p0 m d := by
  funext x
  have h0 : (x 0).val = 0 := by have : (x 0).val < 1 := (x 0).isLt; omega
  have h1 : (x 1).val = 0 := by have : (x 1).val < 1 := (x 1).isLt; omega
  show (if 0 + 1 * (x 1).val = 0 then p0 m d (ix4 0 0 ⟨0 + 1 * (x 2).val, _⟩ ⟨0 + 1 * (x 3).val, _⟩) else _) = _
  rw [if_pos (by omega)]
  congr 1
  funext a
  apply Fin.ext
  match a with
  | ⟨0, _⟩ => show 0 = (x 0).val; omega
  | ⟨1, _⟩ => show 0 = (x 1).val; omega
  | ⟨2, _⟩ => show 0 + 1 * (x 2).val = (x 2).val; omega
  | ⟨3, _⟩ => show 0 + 1 * (x 3).val = (x 3).val; omega

/-- Batch 1 of a filled slot is the sender's part of batch 1. -/
theorem ldcb_allP1 (o : ℕ) (inb) (d : Dev nD) : ldcb o 1 inb (allP m d) = p1 m d := by
  funext x
  have h0 : (x 0).val = 0 := by have : (x 0).val < 1 := (x 0).isLt; omega
  have h1 : (x 1).val = 0 := by have : (x 1).val < 1 := (x 1).isLt; omega
  show (if 1 + 1 * (x 1).val = 0 then _ else p1 m d (ix4 0 0 ⟨0 + 1 * (x 2).val, _⟩ ⟨0 + 1 * (x 3).val, _⟩)) = _
  rw [if_neg (by omega)]
  congr 1
  funext a
  apply Fin.ext
  match a with
  | ⟨0, _⟩ => show 0 = (x 0).val; omega
  | ⟨1, _⟩ => show 0 = (x 1).val; omega
  | ⟨2, _⟩ => show 0 + 1 * (x 2).val = (x 2).val; omega
  | ⟨3, _⟩ => show 0 + 1 * (x 3).val = (x 3).val; omega

/-! ## The copies carry these contents -/

/-- A slot of the exchange buffer receives what slot 3 of the sender holds. -/
theorem copy_cb (o : Fin 4) (d : Dev nD) (fd : Vec F S4x2x256x512 .bf16) :
    ∀ i ∈ cbSet o, (cbSlot o).view.write (Elt F) fd ((cbSlot 3).view.read (Elt F) (allP m d)) Finset.univ i = allP m d i := by
  intro i hi
  obtain ⟨x, -, hx⟩ := Finset.mem_map.mp hi
  subst hx
  rw [View.write_emb_of_mem (h := Finset.mem_univ _)]
  show allP m d ((cbSlot 3).view.emb x) = allP m d ((cbSlot o).view.emb x)
  rw [cb_emb, cb_emb]
  rfl

omit [FloatOps F] [Named F] in
/-- A device's key buffer receives what its slot of device 0's send buffer holds. -/
theorem copy_rk (j : Fin 3) (X : Vec F S2x256x16x64 .bf16) (fd : Vec F S2x256x4x64 .bf16) :
    rkM.view.write (Elt F) fd ((skSlot j).view.read (Elt F) (sendOf X)) Finset.univ = headsOf j.succ X := by
  refine (View.write_whole_univ cc0_scratch2 fd _).trans ?_
  funext x
  show sendOf X ((skSlot j).view.emb x) = _
  rw [sk_emb]
  show headsOf j.succ X (ix4 (x 0) (x 1) (x 2) (x 3)) = _
  exact congrArg (headsOf j.succ X) (eq_ix4 x).symm

omit [FloatOps F] [Named F] in
/-- A copy out of a slot of the values' send buffer brings the target's heads. -/
theorem copy_rv (j : Fin 3) (X : Vec F S2x256x16x64 .bf16) (fd : Vec F S2x256x4x64 .bf16) :
    rvM.view.write (Elt F) fd ((svSlot j).view.read (Elt F) (sendOf X)) Finset.univ = headsOf j.succ X := by
  refine (View.write_whole_univ cc0_scratch3 fd _).trans ?_
  funext x
  show sendOf X ((svSlot j).view.emb x) = _
  rw [sv_emb]
  exact congrArg (headsOf j.succ X) (eq_ix4 x).symm

end Cert.Attn
-- ==== Proof.Schedule.lean ====
/-
# What each payment hands over

Every raise of a semaphore hands its owner something: the barrier hands over the places a device may write into, the
arrivals and departures hand over filled buffers. This module writes that down and proves one rule for each kind of step
the devices take: a signal, a copy to another device, a wait.
-/
module

public import proofs.«01_k».proof.Proof.Contents

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The protocol's rounds. -/
abbrev UB : Type := URounds (GSem nD τ sig) (Dev nD)
/-- The region's state beside the protocol's. -/
abbrev UU : Type := UR sig nD τ × UB
local notation "𝕄" => MT nD τ sig Unit (Elt F) ℕ UU ℕ

/-- Where the region's state sits. -/
abbrev EP : Emb (UR sig nD τ) (MT nD τ sig Unit (Elt F) ℕ UU ℕ) := embL
/-- Where the protocol's state sits. -/
abbrev ER : Emb UB (MT nD τ sig Unit (Elt F) ℕ UU ℕ) := embR

/-! ## The buffers, as resources -/

/-- Slot `o` of the exchange buffer of device `c`, at `f`. -/
def cbPts (c : Dev nD) (o : Fin 4) (q : PosShare TreeShare) (f : Vec F S4x2x256x512 .bf16) : sProp 𝕄 :=
  (cbSlot o).view.loc (c : Thread nD τ) ↦[(cbSlot o).view.set]{q} f
/-- Slot `j` of its keys' send buffer, at `f`. -/
def skPts (c : Dev nD) (j : Fin 3) (f : Vec F S3x2x256x4x64 .bf16) : sProp 𝕄 :=
  (skSlot j).view.loc (c : Thread nD τ) ↦[(skSlot j).view.set]{fullShare} f
/-- Slot `j` of its values' send buffer, at `f`. -/
def svPts (c : Dev nD) (j : Fin 3) (f : Vec F S3x2x256x4x64 .bf16) : sProp 𝕄 :=
  (svSlot j).view.loc (c : Thread nD τ) ↦[(svSlot j).view.set]{fullShare} f
/-- Its working keys, at `f`. -/
def rkPts (c : Dev nD) (f : Vec F S2x256x4x64 .bf16) : sProp 𝕄 :=
  rkM.view.loc (c : Thread nD τ) ↦[rkM.view.set]{fullShare} f
/-- Its working values, at `f`. -/
def rvPts (c : Dev nD) (f : Vec F S2x256x4x64 .bf16) : sProp 𝕄 :=
  rvM.view.loc (c : Thread nD τ) ↦[rvM.view.set]{fullShare} f

omit [FloatOps F] [Named F] in
/-- It may be handed over. -/
instance cbPts_storable (c : Dev nD) (o q f) : BI.Storable (upEmb : UEmb _ 𝕄) (cbPts (F := F) c o q f) := by unfold cbPts; infer_instance
omit [FloatOps F] [Named F] in
/-- It may be handed over. -/
instance skPts_storable (c : Dev nD) (j f) : BI.Storable (upEmb : UEmb _ 𝕄) (skPts (F := F) c j f) := by unfold skPts; infer_instance
omit [FloatOps F] [Named F] in
/-- It may be handed over. -/
instance svPts_storable (c : Dev nD) (j f) : BI.Storable (upEmb : UEmb _ 𝕄) (svPts (F := F) c j f) := by unfold svPts; infer_instance
omit [FloatOps F] [Named F] in
/-- It may be handed over. -/
instance rkPts_storable (c : Dev nD) (f) : BI.Storable (upEmb : UEmb _ 𝕄) (rkPts (F := F) c f) := by unfold rkPts; infer_instance
omit [FloatOps F] [Named F] in
/-- It may be handed over. -/
instance rvPts_storable (c : Dev nD) (f) : BI.Storable (upEmb : UEmb _ 𝕄) (rvPts (F := F) c f) := by unfold rvPts; infer_instance

/-- The share of its own slot that a device lends to each of its three copies; it keeps the left half. -/
def lend : Fin 3 → PosShare TreeShare
  | 0 => fullShare.right.left
  | 1 => fullShare.right.right.left
  | 2 => fullShare.right.right.right

/-! ## The payments -/

section Pay
variable (m : (ℓ : Loc nD τ sig) → Buf (Elt F) ℓ)

/-- What device `d`'s signal to device `t`'s barrier hands over: the slot of `d` that `t` writes into, and, if `t` is
    device 0, `d`'s key and value buffers. -/
def barPay (t d : Dev nD) : sProp 𝕄 :=
  iprop((∃ f, cbPts d (d - t - 1) fullShare f) ∗ (if t = 0 then iprop((∃ f, rkPts d f) ∗ (∃ f, rvPts d f)) else iprop(emp)))

/-- What device `d`'s payment to cell `k` of device `t` hands over. -/
def pay (t : Dev nD) (k : Cl) (d : Dev nD) : sProp 𝕄 :=
  match k with
  | .bar => barPay t d
  | .kr => rkPts t (kdata m t)
  | .vr => rvPts t (vdata m t)
  | .ks j => skPts t j (sendOf (ks m t))
  | .vs j => svPts t j (sendOf (vs m t))
  | .dep o => cbPts t 3 (lend o) (allP m t)
  | .arr o => cbPts t o.castSucc fullShare (slotP m t o.castSucc)

/-- Whatever a payment brings may be handed over. -/
instance pay_storable (t : Dev nD) (k : Cl) (d : Dev nD) : BI.Storable (upEmb : UEmb _ 𝕄) (pay (F := F) m t k d) := by
  cases k <;> dsimp only [pay]
  case bar => unfold barPay; split <;> infer_instance
  all_goals infer_instance

/-- One round: each cell is paid by its payers, at its amount. -/
def Rd : Rounds.Schedule (GSem nD τ sig) (Dev nD) 𝕄 where
  duties g r := if r = 0 ∧ g.1.2 = .tc then (match idx g.2 with | some k => payers g.1.1 k | none => ∅) else ∅
  unitless _ := False
  amount g _ _ := match idx g.2 with | some k => amt k | none => 1
  payload g _ d := match idx g.2 with | some k => pay m g.1.1 k d | none => iprop(emp)
  amount_pos g _ _ _ := by
    cases idx g.2 with
    | none => exact Nat.one_pos
    | some k => exact amt_pos k

/-- The same, of the protocol's rounds. -/
instance Rd_payload_storable (g : GSem nD τ sig) (r : ℕ) (d : Dev nD) :
    BI.Storable (upEmb : UEmb _ 𝕄) ((Rd (F := F) m).payload g r d) := by
  dsimp only [Rd]
  cases idx g.2 with
  | none => dsimp only; infer_instance
  | some k => dsimp only; infer_instance

/-- A cell's first round is paid by its payers. -/
theorem duties_kcell (c : Dev nD) (k : Cl) : (Rd (F := F) m).duties (kcell (c, k)) 0 = payers c k := by
  dsimp only [Rd]
  rw [if_pos ⟨rfl, rfl⟩, idx_csem]
/-- There is no later round. -/
theorem duties_later (g : GSem nD τ sig) (r : ℕ) (hr : 1 ≤ r) : (Rd (F := F) m).duties g r = ∅ := by
  dsimp only [Rd]; rw [if_neg fun h => by omega]
/-- Each pays the kind's worth. -/
theorem amount_kcell (c : Dev nD) (k : Cl) (d : Dev nD) : (Rd (F := F) m).amount (kcell (c, k)) 0 d = amt k := by
  dsimp only [Rd]; rw [idx_csem]
/-- Each payment brings what the kind says. -/
theorem payload_kcell (c : Dev nD) (k : Cl) (d : Dev nD) : (Rd (F := F) m).payload (kcell (c, k)) 0 d = pay m c k d := by
  dsimp only [Rd]; rw [idx_csem]
/-- The round is complete after one payment of each payer. -/
theorem expect_kcell (c : Dev nD) (k : Cl) : (Rd (F := F) m).expect (kcell (c, k)) 0 = (payers c k).card * amt k := by
  unfold Schedule.expect Schedule.amountOf
  rw [duties_kcell, Finset.sum_congr rfl fun d _ => amount_kcell m c k d, Finset.sum_const, smul_eq_mul]
/-- A complete round brings all that its payers bring. -/
theorem rest_kcell (c : Dev nD) (k : Cl) :
    bigSep ((Rd (F := F) m).duties (kcell (c, k)) 0 \ ∅) (fun d => (Rd (F := F) m).payload (kcell (c, k)) 0 d)
      = bigSep (payers c k) (fun d => pay m c k d) := by
  rw [Finset.sdiff_empty, duties_kcell, funext (payload_kcell m c k)]
/-- Who owes a cell is one of its payers. -/
theorem mem_payers {t : Dev nD} {k : Cl} {d : Dev nD} (h : (t, k) ∈ pays d) : d ∈ payers t k :=
  Finset.mem_filter.mpr ⟨Finset.mem_univ _, h⟩

/-- All cells' invariants, under the names the launch gave them, and that each cell has reached its round. -/
def records (K : Dev nD × Cl → ℕ) : sProp 𝕄 :=
  bigSep Finset.univ fun ck : Dev nD × Cl => iprop(cellInv ER (Rd m) (K ck) (kcell ck) ∗ reached ER (kcell ck) 0)

/-- The records may be read any number of times. -/
instance records_persistent (K : Dev nD × Cl → ℕ) : BI.Persistent (records (F := F) m K) := by unfold records; infer_instance

/-- The record of one cell. -/
theorem records_at (K : Dev nD × Cl → ℕ) (ck : Dev nD × Cl) :
    records (F := F) m K ⊢ iprop(cellInv ER (Rd m) (K ck) (kcell ck) ∗ reached ER (kcell ck) 0) := by
  unfold records; exact bigSep_elim (Finset.mem_univ ck)

/-- What a device still owes, whatever it has waited for. -/
def owesL (c : Dev nD) (l : List (Dev nD × Cl)) : sProp 𝕄 := iprop(∃ W, owes (c : Thread nD τ) (owed l) W)

omit [FloatOps F] [Named F] in
/-- A device may wait at a cell ranked below all it owes. -/
theorem mayWait_kcell (c : Dev nD) (k : Cl) (l : List (Dev nD × Cl)) (hl : ∀ ck ∈ l, rank k < rank ck.2) :
    (levAts L lv : sProp 𝕄) ⊢ MayWait (c : Thread nD τ) (csem k) () (owed l) :=
  MayOwe.of_cut (L := L) (lev := lv) (rank k) (fun p hp => by rw [Finset.mem_singleton.mp hp, L_tc]; exact Finset.mem_singleton_self _)
    (fun g u hg => by obtain ⟨ck, -, rfl⟩ := owed_pos hg; exact Finset.mem_singleton_self _)
    (fun p hp => by rw [Finset.mem_singleton.mp hp]; exact le_of_eq (lv_kcell (c, k) ()))
    (fun g u hg => by obtain ⟨ck, hm, rfl⟩ := owed_pos hg; rw [lv_kcell]; exact hl ck hm)

/-- No loop variants are needed. -/
abbrev 𝒱₀ : Variants := Variants.none

/-! ## The steps -/

variable (K : Dev nD × Cl → ℕ) (c : Dev nD)

/-- A wait at one of the device's own cells: it gets what the payers hand over. -/
theorem step_wait {α : Type} {Q : α → sProp 𝕄} {k : PUnit → Prog (TpuEff nD τ sig (Elt F) Λ₀ .tc) α}
    (x : Cl) (l : List (Dev nD × Cl)) (hl : ∀ ck ∈ l, rank x < rank ck.2)
    {w : TpuEff nD τ sig (Elt F) Λ₀ .tc PUnit} {n : ℕ}
    (hw : ∀ K' : PUnit → sProp 𝕄, wpE (defs₀ (F := F)) 𝒱₀ (c : Thread nD τ) none Set.univ w K' = waitSpec (c : Thread nD τ) Set.univ (csem x) n K')
    (hn : n = (payers c x).card * amt x) :
    iprop(records m K ∗ levAts L lv ∗ cred (tallyAt (kcell (c, x)) () n) ∗ owesL c l ∗ atPos ER (kcell (c, x)) 0 ∅ 0)
      ⊢ iprop(((owesL c l ∗ atPos ER (kcell (c, x)) 1 ∅ 0 ∗ bigSep (payers c x) (fun d => pay m c x d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#Hrec, #Hlev, Hc, HO, Hat⟩ Hk
  unfold owesL
  icases HO with ⟨%W, HO⟩
  ihave #Hr := (records_at m K (c, x)) $$ Hrec
  icases Hr with ⟨#HI, -⟩
  iapply (Rounds.wp_wait_rest_token 𝒱₀ ER (Rd m) (c : Thread nD τ) none (κ := K (c, x)) hw (Set.mem_univ _) () (O := owed l) (W := W)
      (R := 0) (m := 0) (T := ∅) (by rw [Nat.zero_add, hn]; exact (expect_kcell m c x).symm)) $$ [Hc HO Hat]
  · isplitr; · iexact HI
    isplitl [Hc]; · iexact Hc
    isplitl [HO]; · iexact HO
    isplitr; · iapply (mayWait_kcell c x l hl); iexact Hlev
    iexact Hat
  iintro ⟨HO, Hat, -, Hpay⟩
  iapply Hk
  isplitl [HO]; · iexists _; iexact HO
  isplitl [Hat]; · iexact Hat
  ihave Hp := (Entails.of_eq (rest_kcell m c x)) $$ Hpay
  iexact Hp

/-- A signal to another device's barrier. -/
theorem step_signal {α : Type} {Q : α → sProp 𝕄} {k : PUnit → Prog (TpuEff nD τ sig (Elt F) Λ₀ .tc) α}
    (n t : Dev nD) (hn : n = t) (l : List (Dev nD × Cl)) (hp : (t, Cl.bar) ∈ pays c) {sem : Sem sig} (hs : sem = barS) {k' : ℕ} (hk' : k' = 1) :
    iprop(records m K ∗ dutyTok ER (kcell (t, .bar)) 0 c ∗ pay m t .bar c ∗ owesL c ((t, .bar) :: l))
      ⊢ iprop((owesL c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sem k') k) Q) := by
  subst hn hs hk'
  iintro ⟨#Hrec, Ht, Hp, HO⟩ Hk
  unfold owesL
  icases HO with ⟨%W, HO⟩
  ihave #Hr := (records_at m K (n, .bar)) $$ Hrec
  icases Hr with ⟨#HI, #Hre⟩
  iapply (Rounds.wp_signal 𝒱₀ ER (Rd m) (c : Thread nD τ) none (dst := (n : Thread nD τ)) (κ := K (n, .bar)) (d := c) (r := 0)
      (by rw [show ((n : Thread nD τ), SemLoc.reg barS) = kcell (n, .bar) from rfl, duties_kcell]; exact mem_payers hp)
      (amount_kcell m n .bar c) () (owed l) (owed_cons (n, .bar) l)) $$ [HO Ht Hp]
  · isplitr; · iexact HI
    isplitl [HO]; · iexact HO
    isplitl [Ht]; · iexact Ht
    isplitl [Hp]
    · ihave Hp' := (Entails.of_eq (payload_kcell m n .bar c).symm) $$ Hp
      iexact Hp'
    iexact Hre
  iintro HO
  iapply Hk
  iexists _; iexact HO

/-- A copy to another device: the source comes back with the wait on the departure cell `x`, the destination goes to
    device `t` at its cell `y`. -/
theorem step_send {α : Type} {Q : α → sProp 𝕄} {k : PUnit → Prog (TpuEff nD τ sig (Elt F) Λ₀ .tc) α}
    {sp sp' : Space} {s : Shape} {e : EltTy} (n t : Dev nD) (hn : n = t) (x y : Cl) (l : List (Dev nD × Cl)) (hx : (c, x) ∈ pays c) (hy : (t, y) ∈ pays c)
    (hxy : amt x = amt y) {src : Memref sig .tc sp s e} {dst : Memref sig (Dev.tc n : Thread nD τ).2.kind sp' s e} {hsc : dst.view.ref.isScScratch = false} {sS sR : SemLoc sig}
    (hsS : sS = csem x) (hsR : sR = csem y)
    {hsrc : src.view.WordExact} {hdst : dst.view.WordExact} {hsem : DmaTarget.Typed sp sR (.remote (Dev.tc n : Thread nD τ) dst sS hsc)}
    {q : PosShare TreeShare} {fs : Buf (Elt F) (src.view.loc (c : Thread nD τ))} (fd : Buf (Elt F) (dst.view.loc (Dev.tc n : Thread nD τ)))
    (hN : dst.view.amount sR = amt y)
    (hpx : (src.view.loc (c : Thread nD τ) ↦[src.view.set]{q} fs) ⊢ pay m c x c)
    (hpy : (dst.view.loc (Dev.tc n : Thread nD τ) ↦[dst.view.set]{fullShare} (dst.view.write (Elt F) fd (src.view.read (Elt F) fs) Finset.univ)) ⊢ pay m t y c) :
    iprop(records m K ∗ (src.view.loc (c : Thread nD τ) ↦[src.view.set]{q} fs) ∗ (dst.view.loc (Dev.tc n : Thread nD τ) ↦[dst.view.set]{fullShare} fd)
        ∗ dutyTok ER (kcell (c, x)) 0 c ∗ dutyTok ER (kcell (t, y)) 0 c ∗ owesL c ((t, y) :: l))
      ⊢ iprop((cred (tallyAt (kcell (c, x)) () (amt x)) ∗ owesL c l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hsS hsR
  iintro ⟨#Hrec, Hs, Hd, Htx, Hty, HO⟩ Hk
  unfold owesL
  icases HO with ⟨%W, HO⟩
  ihave #Hr := (records_at m K (c, x)) $$ Hrec
  icases Hr with ⟨#HIx, #Hrx⟩
  ihave #Hr' := (records_at m K (n, y)) $$ Hrec
  icases Hr' with ⟨#HIy, #Hry⟩
  iapply (Rounds.wp_send_pointsTo 𝒱₀ ER (Rd m) (c : Thread nD τ) none (κ₁ := K (c, x)) (κ₂ := K (n, y)) (r₁ := 0) (r₂ := 0)
      (d₁ := c) (d₂ := c) (fd := fd)
      (by rw [show ((c : Thread nD τ), csem x) = kcell (c, x) from rfl, duties_kcell]; exact mem_payers hx)
      (by rw [show ((Dev.tc n : Thread nD τ), csem y) = kcell (n, y) from rfl, duties_kcell]; exact mem_payers hy)
      () () (amt y) hN ((amount_kcell m c x c).trans hxy) (amount_kcell m n y c) (owed l) (owed_cons (n, y) l) (W := W)
      (hpx.trans (Entails.of_eq (payload_kcell m c x c).symm)) (hpy.trans (Entails.of_eq (payload_kcell m n y c).symm))) $$ [Hs Hd Htx Hty HO]
  · isplitr; · iexact HIx
    isplitr; · iexact HIy
    isplitl [Hs]; · iexact Hs
    isplitl [Hd]; · iexact Hd
    isplitl [HO]; · iexact HO
    isplitl [Htx]; · iexact Htx
    isplitr; · iexact Hrx
    isplitl [Hty]; · iexact Hty
    iexact Hry
  iintro ⟨Hc, HO⟩
  iapply Hk
  isplitl [Hc]; · rw [hxy]; iexact Hc
  iexists _; iexact HO

/-- A cell at its last round closes and its counter is zero. -/
theorem step_close (x : Cl) (R : ℕ) (hR : 1 ≤ R ∨ payers c x = ∅) :
    iprop(records m K ∗ atPos ER (kcell (c, x)) R ∅ 0) ⊢ iprop(|={Set.univ}=> semVal (kcell (c, x)) 0 : sProp 𝕄) := by
  iintro ⟨#Hrec, Hat⟩
  ihave #Hr := (records_at m K (c, x)) $$ Hrec
  icases Hr with ⟨#HI, -⟩
  iapply (Rounds.cell_close ER (Rd m) (Set.mem_univ (K (c, x))) (fun h => h) (R := R) (fun r hr => by
    rcases hR with h | h
    · exact duties_later m _ r (le_trans h hr)
    · by_cases h0 : r = 0
      · subst h0; rw [duties_kcell, h]
      · exact duties_later m _ r (Nat.one_le_iff_ne_zero.mpr h0)))
  isplitr; · iexact HI
  iexact Hat

end Pay

/-! ## Credits, loads and stores -/

/-- Running `p` on device `c` ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has ended. -/
theorem WP_ret {c : Dev nD} {α : Type} {a : α} {Q : α → sProp 𝕄} : Q a ⊢ WP c (Prog.ret a) Q := by
  unfold WP; rw [wp_ret]; exact fupd_intro

/-- One program after another. -/
theorem WP_bind {c : Dev nD} {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

/-- A copy's credit depends on its shape and element type, not on the buffer. -/
theorem credit_any (tb tb' : Table) (b : Fin (sig.nBuf tb)) (b' : Fin (sig.nBuf tb')) (s : Shape) (e : EltTy) :
    sig.dmaCredit .tc tb b s e = sig.dmaCredit .tc tb' b' s e := rfl
/-- A copy into the working keys is worth a landing of keys. -/
theorem credit_rk : rkM.view.dmaCredit = NK := rfl
/-- A copy into the working values is worth the same. -/
theorem credit_rv : rvM.view.dmaCredit = NK := credit_any _ _ _ _ _ _
/-- So is one out of a slot of the keys' send buffer. -/
theorem credit_sk (j : Fin 3) : (skSlot j).view.dmaCredit = NK := credit_any _ _ _ _ _ _
/-- And out of a slot of the values'. -/
theorem credit_sv (j : Fin 3) : (svSlot j).view.dmaCredit = NK := credit_any _ _ _ _ _ _
/-- A copy of a part is worth a landing of a part. -/
theorem credit_cb (o : Fin 4) : (cbSlot o).view.dmaCredit = NA := credit_any _ _ _ _ _ _

/-- A load from a whole buffer. -/
theorem ld (c : Dev nD) {α : Type} {Q : α → sProp 𝕄} {cs : CoreSpace} {s : Shape} {e : EltTy} (M : Memref sig .tc cs s e) {q : PosShare TreeShare}
    {f : Buf (Elt F) (M.view.loc (c : Thread nD τ))} {r : LoadRect s} {hl : M.view.LoadsAt r}
    {k : (r.shape.Idx → Elt F e) → Prog (TpuEff nD τ sig (Elt F) Λ₀ .tc) α} :
    (M.view.loc (c : Thread nD τ) ↦{q} f : sProp 𝕄)
      ⊢ iprop(((M.view.loc (c : Thread nD τ) ↦{q} f) -∗ wp frame (wpE (defs₀ (F := F)) 𝒱₀ (c : Thread nD τ) none) Set.univ (k (M.view.readAt (Elt F) r f)) Q)
          -∗ wp frame (wpE (defs₀ (F := F)) 𝒱₀ (c : Thread nD τ) none) Set.univ (.op (.load M r hl) k) Q) :=
  wp_load 𝒱₀ (c : Thread nD τ) none Set.univ (m := M) (Finset.subset_univ _)

/-- A store into a whole buffer. -/
theorem st (c : Dev nD) {α : Type} {Q : α → sProp 𝕄} {cs : CoreSpace} {s : Shape} {e : EltTy} (M : Memref sig .tc cs s e)
    {f : Buf (Elt F) (M.view.loc (c : Thread nD τ))} {r : Rect s} {w : r.shape.Idx → Elt F e} {hx : (M.access r).Stores Finset.univ}
    {hm : Finset.univ = Finset.univ ∨ ∀ a, r.stride a = 1} {k : PUnit → Prog (TpuEff nD τ sig (Elt F) Λ₀ .tc) α} :
    (M.view.loc (c : Thread nD τ) ↦{fullShare} f : sProp 𝕄)
      ⊢ iprop(((M.view.loc (c : Thread nD τ) ↦{fullShare} (M.access r).write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) :=
  wp_store 𝒱₀ (c : Thread nD τ) none Set.univ (m := M) (r := r) (Mk := Finset.univ) (Finset.subset_univ _)

/-! ## The same at the head of a program that goes on -/

/-- A program that asks for its device goes on with that device. -/
theorem WP_dev {c : Dev nD} {β : Type} {k : Dev nD → Prog (TpuEff nD τ sig (Elt F) Λ₀ .tc) β} {Q : β → sProp 𝕄} :
    WP c (k c) Q ⊢ WP c (Prog.lift .deviceId >>= k) Q := by
  simp only [Prog.lift, Prog.bind_op, Prog.bind_ret, WP, wp_deviceId]; exact Entails.refl _

/-- A program that returns. -/
theorem WP_pure {c : Dev nD} {α : Type} {a : α} {Q : α → sProp 𝕄} : Q a ⊢ WP c (pure a) Q := WP_ret

/-- A branch that is taken. -/
theorem WP_yes {c : Dev nD} {α : Type} {b : Prop} [Decidable b] {p : b → Prog (TpuEff nD τ sig (Elt F) Λ₀ .tc) α} {q : ¬b → Prog (TpuEff nD τ sig (Elt F) Λ₀ .tc) α}
    {Q : α → sProp 𝕄} (h : b) : WP c (p h) Q ⊢ WP c (dite b p q) Q := by rw [dif_pos h]
/-- A branch that is not. -/
theorem WP_no {c : Dev nD} {α : Type} {b : Prop} [Decidable b] {p : b → Prog (TpuEff nD τ sig (Elt F) Λ₀ .tc) α} {q : ¬b → Prog (TpuEff nD τ sig (Elt F) Λ₀ .tc) α}
    {Q : α → sProp 𝕄} (h : ¬b) : WP c (q h) Q ⊢ WP c (dite b p q) Q := by rw [dif_neg h]

/-- A load from a whole buffer. -/
theorem ldB (c : Dev nD) {α : Type} {Q : α → sProp 𝕄} {cs : CoreSpace} {s : Shape} {e : EltTy} (M : Memref sig .tc cs s e) {q : PosShare TreeShare}
    {f : Buf (Elt F) (M.view.loc (c : Thread nD τ))} {r : LoadRect s} {hl : M.view.LoadsAt r}
    {k : (r.shape.Idx → Elt F e) → Prog (TpuEff nD τ sig (Elt F) Λ₀ .tc) α} :
    (M.view.loc (c : Thread nD τ) ↦{q} f : sProp 𝕄)
      ⊢ iprop(((M.view.loc (c : Thread nD τ) ↦{q} f) -∗ WP c (k (M.view.readAt (Elt F) r f)) Q)
          -∗ WP c (Prog.lift (.load M r hl) >>= k) Q) := by
  simp only [Prog.lift, Prog.bind_op, Prog.bind_ret]; exact ld c M

/-- A store into a whole buffer. -/
theorem stB (c : Dev nD) {α : Type} {Q : α → sProp 𝕄} {cs : CoreSpace} {s : Shape} {e : EltTy} (M : Memref sig .tc cs s e)
    {f : Buf (Elt F) (M.view.loc (c : Thread nD τ))} {r : Rect s} {w : r.shape.Idx → Elt F e} {hx : (M.access r).Stores Finset.univ}
    {hm : Finset.univ = Finset.univ ∨ ∀ a, r.stride a = 1} {k : PUnit → Prog (TpuEff nD τ sig (Elt F) Λ₀ .tc) α} :
    (M.view.loc (c : Thread nD τ) ↦{fullShare} f : sProp 𝕄)
      ⊢ iprop(((M.view.loc (c : Thread nD τ) ↦{fullShare} (M.access r).write (Elt F) f w Finset.univ) -∗ WP c (k ⟨⟩) Q)
          -∗ WP c (Prog.lift (.store M r w Finset.univ hx hm) >>= k) Q) := by
  simp only [Prog.lift, Prog.bind_op, Prog.bind_ret]; exact st c M

end Cert.Attn

end
-- ==== Proof.Scatter.lean ====
/-
# Device 0 hands out the keys and values

Device 0 copies each other device's four heads into its send buffers, sends them, and keeps its own four.
-/
module

public import proofs.«01_k».proof.Proof.Schedule
public import Idealize.ShloMosaic.Lib.Ring

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks)

variable {F : FTy → Type} [FloatOps F] [Named F]
local notation "𝕄" => MT nD τ sig Unit (Elt F) ℕ UU ℕ

/-! ## The blocks copied into the send buffers -/

/-- Four heads of one batch, recast for a send slot. -/
theorem recast_apply (v : Vec F S1x256x4x64 .bf16) (a b : Fin 1) (s : Fin 256) (h : Fin 4) (d : Fin 64) :
    k0_pay1 v (ix5 a b s h d) = v (ix4 0 s h d) := by
  show shapeCast S1x1x256x4x64 (shapeCast S256x4x64 v shapeCasts_S1x256x4x64_S256x4x64) shapeCasts_S256x4x64_S1x1x256x4x64 (ix5 a b s h d) = _
  have ha : a = 0 := Subsingleton.elim _ _
  have hb : b = 0 := Subsingleton.elim _ _
  subst ha hb
  rw [shapeCast_apply _ _ _ (ix3 s h d), shapeCast_apply _ _ _ (ix4 0 s h d)]
  · refine (Shape.rowMajor_val_four (d := ![1, 256, 4, 64]) _).trans (Eq.trans ?_ (Shape.rowMajor_val_three (d := ![256, 4, 64]) _).symm)
    show ((0 * 256 + s.val) * 4 + h.val) * 64 + d.val = (s.val * 4 + h.val) * 64 + d.val
    rw [Nat.zero_mul, Nat.zero_add]
  · refine (Shape.rowMajor_val_three (d := ![256, 4, 64]) _).trans (Eq.trans ?_ (Shape.rowMajor_val_five (d := ![1, 1, 256, 4, 64]) _).symm)
    show (s.val * 4 + h.val) * 64 + d.val = (((0 * 1 + 0) * 256 + s.val) * 4 + h.val) * 64 + d.val
    rw [Nat.zero_mul, Nat.zero_add]

/-- The first `n` (slot, batch) blocks of a send buffer are in place. -/
def Filled (n : ℕ) (f : Vec F S3x2x256x4x64 .bf16) (X : Vec F S2x256x16x64 .bf16) : Prop :=
  ∀ i, (i 0).val * 2 + (i 1).val < n → f i = sendOf X i

/-- Nothing is filled at first. -/
theorem filled_zero (f : Vec F S3x2x256x4x64 .bf16) (X) : Filled 0 f X := fun i h => absurd h (Nat.not_lt_zero _)

/-- After six stores the send buffer holds all that is to be sent. -/
theorem filled_all {f : Vec F S3x2x256x4x64 .bf16} {X} (h : Filled 6 f X) : f = sendOf X := by
  funext i
  have h0 : (i 0).val < 3 := (i 0).isLt
  have h1 : (i 1).val < 2 := (i 1).isLt
  exact h i (by omega)

/-- Heads `4(j+1) …` of batch `b`, as the kernel loads them, are what belongs in slot `j`. -/
theorem sk_heads (b j : ℕ) (hb : b < 2) (hj : j < 4) {koff : Fin 4 → ℕ} (hk : koff = ![b, 0, 4 * j, 0])
    (inb : ∀ a, koff a + S1x256x4x64.size a ≤ S2x256x16x64.size a)
    (X : Vec F S2x256x16x64 .bf16) (s : Fin 256) (h : Fin 4) (d : Fin 64) :
    kM.view.readAt (Elt F) (Rect.unit (s := S2x256x16x64) koff S1x256x4x64.size inb).toLoadRect X (ix4 0 s h d)
      = headsOf ⟨j, hj⟩ X (ix4 ⟨b, hb⟩ s h d) := by
  subst hk
  show X _ = X _
  congr 1
  funext a
  apply Fin.ext
  match a with
  | ⟨0, _⟩ => show b + 1 * 0 = b; omega
  | ⟨1, _⟩ => show 0 + 1 * s.val = s.val; omega
  | ⟨2, _⟩ => show 4 * j + 1 * h.val = 4 * j + h.val; omega
  | ⟨3, _⟩ => show 0 + 1 * d.val = d.val; omega

/-- One more block of the send buffer filled. -/
theorem sk_fill (j b : ℕ) (hj : j < 3) (hb : b < 2) {n : ℕ} (hn : n = j * 2 + b) {off : Fin 5 → ℕ} {koff : Fin 4 → ℕ}
    (ho : off = ![j, b, 0, 0, 0]) (hk : koff = ![b, 0, 4 * (j + 1), 0])
    (inb : ∀ a, off a + S1x1x256x4x64.size a ≤ S3x2x256x4x64.size a) (inbk : ∀ a, koff a + S1x256x4x64.size a ≤ S2x256x16x64.size a)
    (f : Vec F S3x2x256x4x64 .bf16) (X : Vec F S2x256x16x64 .bf16) (w : Vec F S1x1x256x4x64 .bf16)
    (hw : w = k0_pay1 (kM.view.readAt (Elt F) (Rect.unit (s := S2x256x16x64) koff S1x256x4x64.size inbk).toLoadRect X)) (h : Filled n f X) :
    Filled (n + 1) ((skM.access (Rect.unit (s := S3x2x256x4x64) off S1x1x256x4x64.size inb)).write (Elt F) f w Finset.univ) X := by
  intro i hi
  refine (sk_store j b ho inb f w i).trans ?_
  have i1 : (i 1).val < 2 := (i 1).isLt
  split
  · rename_i hjb
    rw [hw]
    refine (recast_apply _ 0 0 (i 2) (i 3) (i 4)).trans ((sk_heads b (j + 1) hb (by omega) hk inbk X (i 2) (i 3) (i 4)).trans ?_)
    show headsOf ⟨j + 1, _⟩ X (ix4 ⟨b, hb⟩ (i 2) (i 3) (i 4)) = headsOf (i 0).succ X (ix4 (i 1) (i 2) (i 3) (i 4))
    have e0 : (i 0).succ = (⟨j + 1, by omega⟩ : Fin 4) := Fin.ext (by show (i 0).val + 1 = j + 1; rw [hjb.1])
    have e1 : i 1 = (⟨b, hb⟩ : Fin 2) := Fin.ext hjb.2
    rw [e0, e1]
  · rename_i hjb
    refine h i ?_
    by_contra hc
    have h0 : (i 0).val < 3 := (i 0).isLt
    exact hjb (by omega)

/-- Heads `4(j+1) …` of batch `b`, as the kernel loads them, are what belongs in slot `j`. -/
theorem sv_heads (b j : ℕ) (hb : b < 2) (hj : j < 4) {koff : Fin 4 → ℕ} (hk : koff = ![b, 0, 4 * j, 0])
    (inb : ∀ a, koff a + S1x256x4x64.size a ≤ S2x256x16x64.size a)
    (X : Vec F S2x256x16x64 .bf16) (s : Fin 256) (h : Fin 4) (d : Fin 64) :
    vM.view.readAt (Elt F) (Rect.unit (s := S2x256x16x64) koff S1x256x4x64.size inb).toLoadRect X (ix4 0 s h d)
      = headsOf ⟨j, hj⟩ X (ix4 ⟨b, hb⟩ s h d) := by
  subst hk
  show X _ = X _
  congr 1
  funext a
  apply Fin.ext
  match a with
  | ⟨0, _⟩ => show b + 1 * 0 = b; omega
  | ⟨1, _⟩ => show 0 + 1 * s.val = s.val; omega
  | ⟨2, _⟩ => show 4 * j + 1 * h.val = 4 * j + h.val; omega
  | ⟨3, _⟩ => show 0 + 1 * d.val = d.val; omega

/-- One more block of the send buffer filled. -/
theorem sv_fill (j b : ℕ) (hj : j < 3) (hb : b < 2) {n : ℕ} (hn : n = j * 2 + b) {off : Fin 5 → ℕ} {koff : Fin 4 → ℕ}
    (ho : off = ![j, b, 0, 0, 0]) (hk : koff = ![b, 0, 4 * (j + 1), 0])
    (inb : ∀ a, off a + S1x1x256x4x64.size a ≤ S3x2x256x4x64.size a) (inbk : ∀ a, koff a + S1x256x4x64.size a ≤ S2x256x16x64.size a)
    (f : Vec F S3x2x256x4x64 .bf16) (X : Vec F S2x256x16x64 .bf16) (w : Vec F S1x1x256x4x64 .bf16)
    (hw : w = k0_pay1 (vM.view.readAt (Elt F) (Rect.unit (s := S2x256x16x64) koff S1x256x4x64.size inbk).toLoadRect X)) (h : Filled n f X) :
    Filled (n + 1) ((svM.access (Rect.unit (s := S3x2x256x4x64) off S1x1x256x4x64.size inb)).write (Elt F) f w Finset.univ) X := by
  intro i hi
  refine (sv_store j b ho inb f w i).trans ?_
  have i1 : (i 1).val < 2 := (i 1).isLt
  split
  · rename_i hjb
    rw [hw]
    refine (recast_apply _ 0 0 (i 2) (i 3) (i 4)).trans ((sv_heads b (j + 1) hb (by omega) hk inbk X (i 2) (i 3) (i 4)).trans ?_)
    show headsOf ⟨j + 1, _⟩ X (ix4 ⟨b, hb⟩ (i 2) (i 3) (i 4)) = headsOf (i 0).succ X (ix4 (i 1) (i 2) (i 3) (i 4))
    have e0 : (i 0).succ = (⟨j + 1, by omega⟩ : Fin 4) := Fin.ext (by show (i 0).val + 1 = j + 1; rw [hjb.1])
    have e1 : i 1 = (⟨b, hb⟩ : Fin 2) := Fin.ext hjb.2
    rw [e0, e1]
  · rename_i hjb
    refine h i ?_
    by_contra hc
    have h0 : (i 0).val < 3 := (i 0).isLt
    exact hjb (by omega)

/-! ## The device's own four heads -/

/-- A recast there and back changes nothing. -/
theorem recast_back (v : Vec F S1x256x4x64 .bf16) (s : Fin 256) (h : Fin 4) (d : Fin 64) : k0_pay14 v (ix4 0 s h d) = v (ix4 0 s h d) := by
  show shapeCast S1x256x4x64 (shapeCast S256x4x64 v shapeCasts_S1x256x4x64_S256x4x64) shapeCasts_S256x4x64_S1x256x4x64 (ix4 0 s h d) = _
  rw [shapeCast_apply _ _ _ (ix3 s h d), shapeCast_apply _ _ _ (ix4 0 s h d)]
  · refine (Shape.rowMajor_val_four (d := ![1, 256, 4, 64]) _).trans (Eq.trans ?_ (Shape.rowMajor_val_three (d := ![256, 4, 64]) _).symm)
    show ((0 * 256 + s.val) * 4 + h.val) * 64 + d.val = (s.val * 4 + h.val) * 64 + d.val
    rw [Nat.zero_mul, Nat.zero_add]
  · refine (Shape.rowMajor_val_three (d := ![256, 4, 64]) _).trans (Eq.trans ?_ (Shape.rowMajor_val_four (d := ![1, 256, 4, 64]) _).symm)
    show (s.val * 4 + h.val) * 64 + d.val = ((0 * 256 + s.val) * 4 + h.val) * 64 + d.val
    rw [Nat.zero_mul, Nat.zero_add]

/-- Device 0's own heads of both batches, stored into its key buffer. -/
theorem rk_fill {o0 o1 k0 k1 : Fin 4 → ℕ} (ho0 : o0 = ![0, 0, 0, 0]) (ho1 : o1 = ![1, 0, 0, 0]) (hk0 : k0 = ![0, 0, 0, 0]) (hk1 : k1 = ![1, 0, 0, 0])
    (inb0 : ∀ a, o0 a + S1x256x4x64.size a ≤ S2x256x4x64.size a) (inb1 : ∀ a, o1 a + S1x256x4x64.size a ≤ S2x256x4x64.size a)
    (inbk0 : ∀ a, k0 a + S1x256x4x64.size a ≤ S2x256x16x64.size a) (inbk1 : ∀ a, k1 a + S1x256x4x64.size a ≤ S2x256x16x64.size a)
    (f : Vec F S2x256x4x64 .bf16) (X : Vec F S2x256x16x64 .bf16) (w0 w1 : Vec F S1x256x4x64 .bf16)
    (hw0 : w0 = k0_pay14 (kM.view.readAt (Elt F) (Rect.unit (s := S2x256x16x64) k0 S1x256x4x64.size inbk0).toLoadRect X))
    (hw1 : w1 = k0_pay14 (kM.view.readAt (Elt F) (Rect.unit (s := S2x256x16x64) k1 S1x256x4x64.size inbk1).toLoadRect X)) :
    (rkM.access (Rect.unit (s := S2x256x4x64) o1 S1x256x4x64.size inb1)).write (Elt F)
        ((rkM.access (Rect.unit (s := S2x256x4x64) o0 S1x256x4x64.size inb0)).write (Elt F) f w0 Finset.univ) w1 Finset.univ = headsOf 0 X := by
  funext i
  refine (rk_store 1 ho1 inb1 _ w1 i).trans ?_
  have i0 : (i 0).val < 2 := (i 0).isLt
  split
  · rename_i h
    rw [hw1]
    refine (recast_back _ (i 1) (i 2) (i 3)).trans ((sk_heads 1 0 (by decide) (by decide) hk1 inbk1 X (i 1) (i 2) (i 3)).trans ?_)
    refine congrArg (headsOf 0 X) (Eq.trans ?_ (eq_ix4 i).symm)
    rw [show i 0 = (1 : Fin 2) from Fin.ext h]
    rfl
  · rename_i h
    refine (rk_store 0 ho0 inb0 f w0 i).trans ?_
    rw [if_pos (by omega), hw0]
    refine (recast_back _ (i 1) (i 2) (i 3)).trans ((sk_heads 0 0 (by decide) (by decide) hk0 inbk0 X (i 1) (i 2) (i 3)).trans ?_)
    refine congrArg (headsOf 0 X) (Eq.trans ?_ (eq_ix4 i).symm)
    rw [show i 0 = (0 : Fin 2) from Fin.ext (by show (i 0).val = 0; omega)]
    rfl

/-- Device 0's own heads of both batches, stored into its value buffer. -/
theorem rv_fill {o0 o1 k0 k1 : Fin 4 → ℕ} (ho0 : o0 = ![0, 0, 0, 0]) (ho1 : o1 = ![1, 0, 0, 0]) (hk0 : k0 = ![0, 0, 0, 0]) (hk1 : k1 = ![1, 0, 0, 0])
    (inb0 : ∀ a, o0 a + S1x256x4x64.size a ≤ S2x256x4x64.size a) (inb1 : ∀ a, o1 a + S1x256x4x64.size a ≤ S2x256x4x64.size a)
    (inbk0 : ∀ a, k0 a + S1x256x4x64.size a ≤ S2x256x16x64.size a) (inbk1 : ∀ a, k1 a + S1x256x4x64.size a ≤ S2x256x16x64.size a)
    (f : Vec F S2x256x4x64 .bf16) (X : Vec F S2x256x16x64 .bf16) (w0 w1 : Vec F S1x256x4x64 .bf16)
    (hw0 : w0 = k0_pay14 (vM.view.readAt (Elt F) (Rect.unit (s := S2x256x16x64) k0 S1x256x4x64.size inbk0).toLoadRect X))
    (hw1 : w1 = k0_pay14 (vM.view.readAt (Elt F) (Rect.unit (s := S2x256x16x64) k1 S1x256x4x64.size inbk1).toLoadRect X)) :
    (rvM.access (Rect.unit (s := S2x256x4x64) o1 S1x256x4x64.size inb1)).write (Elt F)
        ((rvM.access (Rect.unit (s := S2x256x4x64) o0 S1x256x4x64.size inb0)).write (Elt F) f w0 Finset.univ) w1 Finset.univ = headsOf 0 X := by
  funext i
  refine (rv_store 1 ho1 inb1 _ w1 i).trans ?_
  have i0 : (i 0).val < 2 := (i 0).isLt
  split
  · rename_i h
    rw [hw1]
    refine (recast_back _ (i 1) (i 2) (i 3)).trans ((sv_heads 1 0 (by decide) (by decide) hk1 inbk1 X (i 1) (i 2) (i 3)).trans ?_)
    refine congrArg (headsOf 0 X) (Eq.trans ?_ (eq_ix4 i).symm)
    rw [show i 0 = (1 : Fin 2) from Fin.ext h]
    rfl
  · rename_i h
    refine (rv_store 0 ho0 inb0 f w0 i).trans ?_
    rw [if_pos (by omega), hw0]
    refine (recast_back _ (i 1) (i 2) (i 3)).trans ((sv_heads 0 0 (by decide) (by decide) hk0 inbk0 X (i 1) (i 2) (i 3)).trans ?_)
    refine congrArg (headsOf 0 X) (Eq.trans ?_ (eq_ix4 i).symm)
    rw [show i 0 = (0 : Fin 2) from Fin.ext (by show (i 0).val = 0; omega)]
    rfl

/-! ## The send buffers by slot -/

/-- The filled keys' send buffer, slot by slot. -/
theorem sk_split (c : Dev nD) {f : Vec F S3x2x256x4x64 .bf16} {X : Vec F S2x256x16x64 .bf16} (h : Filled 6 f X) :
    (skM.view.loc (c : Thread nD τ) ↦{fullShare} f : sProp 𝕄) ⊢ iprop(skPts c 0 (sendOf X) ∗ skPts c 1 (sendOf X) ∗ skPts c 2 (sendOf X)) := by
  rw [filled_all h]
  refine (Entails.of_eq (pointsTo_blocks (ℓ := skM.view.loc (c : Thread nD τ)) skSet skSet_disjoint skSet_cover (sendOf X))).trans ?_
  rw [bigSep_univ_eq_bigSepL [0, 1, 2] (by decide) (by decide)]
  simp only [bigSepL_cons', bigSepL_nil]
  iintro ⟨H0, H1, H2, -⟩
  unfold skPts
  isplitl [H0]; · iexact H0
  isplitl [H1]; · iexact H1
  iexact H2

/-- The filled values' send buffer, slot by slot. -/
theorem sv_split (c : Dev nD) {f : Vec F S3x2x256x4x64 .bf16} {X : Vec F S2x256x16x64 .bf16} (h : Filled 6 f X) :
    (svM.view.loc (c : Thread nD τ) ↦{fullShare} f : sProp 𝕄) ⊢ iprop(svPts c 0 (sendOf X) ∗ svPts c 1 (sendOf X) ∗ svPts c 2 (sendOf X)) := by
  rw [filled_all h]
  refine (Entails.of_eq (pointsTo_blocks (ℓ := svM.view.loc (c : Thread nD τ)) svSet skSet_disjoint skSet_cover (sendOf X))).trans ?_
  rw [bigSep_univ_eq_bigSepL [0, 1, 2] (by decide) (by decide)]
  simp only [bigSepL_cons', bigSepL_nil]
  iintro ⟨H0, H1, H2, -⟩
  unfold svPts
  isplitl [H0]; · iexact H0
  isplitl [H1]; · iexact H1
  iexact H2

/-! ## The sends -/

section Parts
variable (m : (ℓ : Loc nD τ sig) → Buf (Elt F) ℓ) (K : Dev nD × Cl → ℕ)

/-- What device 0 needs to send keys to device `j + 1`: the place to write, and the two payments. -/
def keyGo (j : Fin 3) : sProp 𝕄 :=
  iprop((∃ f, rkPts j.succ f) ∗ dutyTok ER (kcell (0, .ks j)) 0 0 ∗ dutyTok ER (kcell (j.succ, .kr)) 0 0)
/-- What the copy of the values for device `j + 1` takes. -/
def valGo (j : Fin 3) : sProp 𝕄 :=
  iprop((∃ f, rvPts j.succ f) ∗ dutyTok ER (kcell (0, .vs j)) 0 0 ∗ dutyTok ER (kcell (j.succ, .vr)) 0 0)

/-- Device 0 pays for the departures of its keys. -/
theorem mem_ks : ∀ j : Fin 3, ((0 : Dev nD), Cl.ks j) ∈ pays 0 := by decide
/-- Device 0 pays for the departures of its values. -/
theorem mem_vs : ∀ j : Fin 3, ((0 : Dev nD), Cl.vs j) ∈ pays 0 := by decide
/-- Device 0 pays for the landings of the keys. -/
theorem mem_kr : ∀ j : Fin 3, ((j.succ : Dev nD), Cl.kr) ∈ pays 0 := by decide
/-- Device 0 pays for the landings of the values. -/
theorem mem_vr : ∀ j : Fin 3, ((j.succ : Dev nD), Cl.vr) ∈ pays 0 := by decide

/-- Device 0 sends slot `j` of its key buffer to device `j + 1`. -/
theorem send_keys (j : Fin 3) (n : Dev nD) (hn : n = j.succ) (l : List (Dev nD × Cl)) {α : Type} {Q : α → sProp 𝕄}
    {k : PUnit → Prog (TpuEff nD τ sig (Elt F) Λ₀ .tc) α} {hsc : (rkM : Memref sig (Dev.tc n : Thread nD τ).2.kind .vmem S2x256x4x64 .bf16).view.ref.isScScratch = false}
    {hsrc : (skSlot j).view.WordExact} {hdst : (rkM : Memref sig (Dev.tc n : Thread nD τ).2.kind .vmem S2x256x4x64 .bf16).view.WordExact}
    {hsem : DmaTarget.Typed .vmem (.dma cc0_scratch7.sem) (.remote (Dev.tc n : Thread nD τ) (rkM : Memref sig (Dev.tc n : Thread nD τ).2.kind .vmem S2x256x4x64 .bf16) (.dma (sem3 cc0_scratch5 j)) hsc)} :
    iprop(records m K ∗ skPts 0 j (sendOf (ks m 0)) ∗ keyGo j ∗ owesL 0 ((j.succ, .kr) :: l))
      ⊢ iprop((cred (tallyAt (kcell (0, .ks j)) () NK) ∗ owesL 0 l -∗ WP 0 (k ⟨⟩) Q)
          -∗ WP 0 (.op (.enqueueDma (skSlot j) (.remote (Dev.tc n : Thread nD τ) rkM (.dma (sem3 cc0_scratch5 j)) hsc) (.dma cc0_scratch7.sem) hsrc hdst hsem) k) Q) := by
  subst hn
  unfold keyGo
  iintro ⟨#Hrec, Hs, ⟨⟨%fd, Hd⟩, Htx, Hty⟩, HO⟩
  unfold skPts rkPts
  iapply (step_send m K (0 : Dev nD) (j.succ : Dev nD) (j.succ : Dev nD) rfl (.ks j) .kr l (mem_ks j) (mem_kr j) rfl (src := skSlot j) (dst := rkM) rfl rfl fd credit_rk
    (Entails.refl _) (by rw [copy_rk]; exact Entails.refl _))
  isplitr; · iexact Hrec
  isplitl [Hs]; · iexact Hs
  isplitl [Hd]; · iexact Hd
  isplitl [Htx]; · iexact Htx
  isplitl [Hty]; · iexact Hty
  iexact HO

/-- Device 0 sends slot `j` of its value buffer to device `j + 1`. -/
theorem send_values (j : Fin 3) (n : Dev nD) (hn : n = j.succ) (l : List (Dev nD × Cl)) {α : Type} {Q : α → sProp 𝕄}
    {k : PUnit → Prog (TpuEff nD τ sig (Elt F) Λ₀ .tc) α} {hsc : (rvM : Memref sig (Dev.tc n : Thread nD τ).2.kind .vmem S2x256x4x64 .bf16).view.ref.isScScratch = false}
    {hsrc : (svSlot j).view.WordExact} {hdst : (rvM : Memref sig (Dev.tc n : Thread nD τ).2.kind .vmem S2x256x4x64 .bf16).view.WordExact}
    {hsem : DmaTarget.Typed .vmem (.dma cc0_scratch8.sem) (.remote (Dev.tc n : Thread nD τ) (rvM : Memref sig (Dev.tc n : Thread nD τ).2.kind .vmem S2x256x4x64 .bf16) (.dma (sem3 cc0_scratch6 j)) hsc)} :
    iprop(records m K ∗ svPts 0 j (sendOf (vs m 0)) ∗ valGo j ∗ owesL 0 ((j.succ, .vr) :: l))
      ⊢ iprop((cred (tallyAt (kcell (0, .vs j)) () NK) ∗ owesL 0 l -∗ WP 0 (k ⟨⟩) Q)
          -∗ WP 0 (.op (.enqueueDma (svSlot j) (.remote (Dev.tc n : Thread nD τ) rvM (.dma (sem3 cc0_scratch6 j)) hsc) (.dma cc0_scratch8.sem) hsrc hdst hsem) k) Q) := by
  subst hn
  unfold valGo
  iintro ⟨#Hrec, Hs, ⟨⟨%fd, Hd⟩, Htx, Hty⟩, HO⟩
  unfold svPts rvPts
  iapply (step_send m K (0 : Dev nD) (j.succ : Dev nD) (j.succ : Dev nD) rfl (.vs j) .vr l (mem_vs j) (mem_vr j) rfl (src := svSlot j) (dst := rvM) rfl rfl fd credit_rv
    (Entails.refl _) (by rw [copy_rv]; exact Entails.refl _))
  isplitr; · iexact Hrec
  isplitl [Hs]; · iexact Hs
  isplitl [Hd]; · iexact Hd
  isplitl [Htx]; · iexact Htx
  isplitl [Hty]; · iexact Hty
  iexact HO

/-! ## The stores and sends, part by part -/

/-- The first two slots of the key buffer. -/
theorem part1_spec (f : Vec F S3x2x256x4x64 .bf16) {Q : PUnit → sProp 𝕄} :
    iprop((kM.view.loc ((0 : Dev nD) : Thread nD τ) ↦{fullShare} ks m 0) ∗ (skM.view.loc ((0 : Dev nD) : Thread nD τ) ↦{fullShare} f)
        ∗ (∀ f' : Vec F S3x2x256x4x64 .bf16, ⌜Filled 4 f' (ks m 0)⌝ -∗ (kM.view.loc ((0 : Dev nD) : Thread nD τ) ↦{fullShare} ks m 0) -∗ (skM.view.loc ((0 : Dev nD) : Thread nD τ) ↦{fullShare} f') -∗ Q ⟨⟩))
      ⊢ WP 0 (k0_part1 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10) Q := by
  rw [k0_part1_eq_skeleton]; unfold k0_part1_skel
  simp only [Prog.lift, Prog.bind_op, Prog.bind_ret, Prog.pure_eq_ret]
  iintro ⟨HK, HS, Hk⟩
  iapply (ld 0 kM) $$ HK; iintro HK
  iapply (ld 0 skM) $$ HS; iintro HS
  iapply (st 0 skM) $$ HS; iintro HS
  iapply (ld 0 kM) $$ HK; iintro HK
  iapply (ld 0 skM) $$ HS; iintro HS
  iapply (st 0 skM) $$ HS; iintro HS
  iapply (ld 0 kM) $$ HK; iintro HK
  iapply (ld 0 skM) $$ HS; iintro HS
  iapply (st 0 skM) $$ HS; iintro HS
  iapply (ld 0 kM) $$ HK; iintro HK
  iapply (ld 0 skM) $$ HS; iintro HS
  iapply (st 0 skM) $$ HS; iintro HS
  iapply WP_ret
  iapply Hk $$ [] HK HS
  ipureintro
  exact sk_fill 1 1 (by decide) (by decide) rfl rfl rfl _ inb_S2x256x16x64_S1x256x4x64_1_0_8_0 _ _ _ rfl
    (sk_fill 1 0 (by decide) (by decide) rfl rfl rfl _ inb_S2x256x16x64_S1x256x4x64_0_0_8_0 _ _ _ rfl
      (sk_fill 0 1 (by decide) (by decide) rfl rfl rfl _ inb_S2x256x16x64_S1x256x4x64_1_0_4_0 _ _ _ rfl
        (sk_fill 0 0 (by decide) (by decide) rfl rfl rfl _ inb_S2x256x16x64_S1x256x4x64_0_0_4_0 _ _ _ rfl (filled_zero f (ks m 0)))))

/-- The last slot of the key buffer, and the first send. -/
theorem part2_spec (d0 : Dev nD) (h5 : k0_cond5 d0 = 1#1) (f : Vec F S3x2x256x4x64 .bf16) (hf : Filled 4 f (ks m 0)) (l : List (Dev nD × Cl)) {Q : PUnit → sProp 𝕄} :
    iprop(records m K ∗ (kM.view.loc ((0 : Dev nD) : Thread nD τ) ↦{fullShare} ks m 0) ∗ (skM.view.loc ((0 : Dev nD) : Thread nD τ) ↦{fullShare} f) ∗ keyGo 0 ∗ owesL 0 ((1, .kr) :: l)
        ∗ ((kM.view.loc ((0 : Dev nD) : Thread nD τ) ↦{fullShare} ks m 0) -∗ skPts 0 1 (sendOf (ks m 0)) -∗ skPts 0 2 (sendOf (ks m 0)) -∗ cred (tallyAt (kcell (0, .ks 0)) () NK) -∗ owesL 0 l -∗ Q ⟨⟩))
      ⊢ WP 0 (k0_part2 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 d0 h5) Q := by
  rw [k0_part2_eq_skeleton]; unfold k0_part2_skel
  simp only [Prog.lift, Prog.bind_op, Prog.bind_ret, Prog.pure_eq_ret]
  iintro ⟨#Hrec, HK, HS, Hgo, HO, Hk⟩
  iapply (ld 0 kM) $$ HK; iintro HK
  iapply (ld 0 skM) $$ HS; iintro HS
  iapply (st 0 skM) $$ HS; iintro HS
  iapply (ld 0 kM) $$ HK; iintro HK
  iapply (ld 0 skM) $$ HS; iintro HS
  iapply (st 0 skM) $$ HS; iintro HS
  ihave HS' := (sk_split 0 (sk_fill 2 1 (by decide) (by decide) rfl rfl rfl _ inb_S2x256x16x64_S1x256x4x64_1_0_12_0 _ _ _ rfl
      (sk_fill 2 0 (by decide) (by decide) rfl rfl rfl _ inb_S2x256x16x64_S1x256x4x64_0_0_12_0 _ (ks m 0) _ rfl hf))) $$ HS
  icases HS' with ⟨H0, H1, H2⟩
  iapply (send_keys m K 0 _ (Fin.ext k0_dev5_eq) l) $$ [H0 Hgo HO]
  · isplitr; · iexact Hrec
    isplitl [H0]; · iexact H0
    isplitl [Hgo]; · iexact Hgo
    iexact HO
  iintro ⟨Hc, HO⟩
  iapply WP_ret
  iapply Hk $$ HK H1 H2 Hc HO

/-- The other two sends of keys, and the first slot of the value buffer. -/
theorem part3_spec (d0 : Dev nD) (h5 : k0_cond5 d0 = 1#1) (f : Vec F S3x2x256x4x64 .bf16) (l : List (Dev nD × Cl))
    {Q : (Σ' (v500 : FVec F S256x4x64 .bf16), Vec F S1x1x256x4x64 .bf16) → sProp 𝕄} :
    iprop(records m K ∗ (vM.view.loc ((0 : Dev nD) : Thread nD τ) ↦{fullShare} vs m 0) ∗ (svM.view.loc ((0 : Dev nD) : Thread nD τ) ↦{fullShare} f) ∗ skPts 0 1 (sendOf (ks m 0)) ∗ skPts 0 2 (sendOf (ks m 0)) ∗ keyGo 1 ∗ keyGo 2
        ∗ owesL 0 ((2, .kr) :: (3, .kr) :: l)
        ∗ (∀ f' v, ⌜Filled 2 f' (vs m 0)⌝ -∗ (vM.view.loc ((0 : Dev nD) : Thread nD τ) ↦{fullShare} vs m 0) -∗ (svM.view.loc ((0 : Dev nD) : Thread nD τ) ↦{fullShare} f') -∗ cred (tallyAt (kcell (0, .ks 1)) () NK)
            -∗ cred (tallyAt (kcell (0, .ks 2)) () NK) -∗ owesL 0 l -∗ Q ⟨k0_pay9 (vM.view.readAt (Elt F) (Rect.unit (s := S2x256x16x64) ![0, 0, 8, 0] S1x256x4x64.size inb_S2x256x16x64_S1x256x4x64_0_0_8_0).toLoadRect (vs m 0)), v⟩))
      ⊢ WP 0 (k0_part3 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 d0 h5) Q := by
  rw [k0_part3_eq_skeleton]; unfold k0_part3_skel
  simp only [Prog.lift, Prog.bind_op, Prog.bind_ret, Prog.pure_eq_ret]
  iintro ⟨#Hrec, HV, HS, H1, H2, Hg1, Hg2, HO, Hk⟩
  iapply (send_keys m K 1 _ (Fin.ext k0_dev6_eq) ((3, .kr) :: l)) $$ [H1 Hg1 HO]
  · isplitr; · iexact Hrec
    isplitl [H1]; · iexact H1
    isplitl [Hg1]; · iexact Hg1
    iexact HO
  iintro ⟨Hc1, HO⟩
  iapply (send_keys m K 2 _ (Fin.ext k0_dev7_eq) l) $$ [H2 Hg2 HO]
  · isplitr; · iexact Hrec
    isplitl [H2]; · iexact H2
    isplitl [Hg2]; · iexact Hg2
    iexact HO
  iintro ⟨Hc2, HO⟩
  iapply (ld 0 vM) $$ HV; iintro HV
  iapply (ld 0 svM) $$ HS; iintro HS
  iapply (st 0 svM) $$ HS; iintro HS
  iapply (ld 0 vM) $$ HV; iintro HV
  iapply (ld 0 svM) $$ HS; iintro HS
  iapply (st 0 svM) $$ HS; iintro HS
  iapply (ld 0 vM) $$ HV; iintro HV
  iapply (ld 0 svM) $$ HS; iintro HS
  iapply WP_ret
  iapply Hk $$ [] HV HS Hc1 Hc2 HO
  ipureintro
  exact sv_fill 0 1 (by decide) (by decide) rfl rfl rfl _ inb_S2x256x16x64_S1x256x4x64_1_0_4_0 _ _ _ rfl
    (sv_fill 0 0 (by decide) (by decide) rfl rfl rfl _ inb_S2x256x16x64_S1x256x4x64_0_0_4_0 _ _ _ rfl (filled_zero f (vs m 0)))

/-- The other two slots of the value buffer. -/
theorem part4_spec (f : Vec F S3x2x256x4x64 .bf16) (hf : Filled 2 f (vs m 0)) (v501 : Vec F S1x1x256x4x64 .bf16) {Q : PUnit → sProp 𝕄} :
    iprop((vM.view.loc ((0 : Dev nD) : Thread nD τ) ↦{fullShare} vs m 0) ∗ (svM.view.loc ((0 : Dev nD) : Thread nD τ) ↦{fullShare} f)
        ∗ (∀ f' : Vec F S3x2x256x4x64 .bf16, ⌜Filled 6 f' (vs m 0)⌝ -∗ (vM.view.loc ((0 : Dev nD) : Thread nD τ) ↦{fullShare} vs m 0) -∗ (svM.view.loc ((0 : Dev nD) : Thread nD τ) ↦{fullShare} f') -∗ Q ⟨⟩))
      ⊢ WP 0 (k0_part4 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 (k0_pay9 (vM.view.readAt (Elt F) (Rect.unit (s := S2x256x16x64) ![0, 0, 8, 0] S1x256x4x64.size inb_S2x256x16x64_S1x256x4x64_0_0_8_0).toLoadRect (vs m 0))) v501) Q := by
  rw [k0_part4_eq_skeleton]; unfold k0_part4_skel
  simp only [Prog.lift, Prog.bind_op, Prog.bind_ret, Prog.pure_eq_ret]
  iintro ⟨HV, HS, Hk⟩
  iapply (st 0 svM) $$ HS; iintro HS
  iapply (ld 0 vM) $$ HV; iintro HV
  iapply (ld 0 svM) $$ HS; iintro HS
  iapply (st 0 svM) $$ HS; iintro HS
  iapply (ld 0 vM) $$ HV; iintro HV
  iapply (ld 0 svM) $$ HS; iintro HS
  iapply (st 0 svM) $$ HS; iintro HS
  iapply (ld 0 vM) $$ HV; iintro HV
  iapply (ld 0 svM) $$ HS; iintro HS
  iapply (st 0 svM) $$ HS; iintro HS
  iapply WP_ret
  iapply Hk $$ [] HV HS
  ipureintro
  exact sv_fill 2 1 (by decide) (by decide) rfl rfl rfl _ inb_S2x256x16x64_S1x256x4x64_1_0_12_0 _ _ _ rfl
    (sv_fill 2 0 (by decide) (by decide) rfl rfl rfl _ inb_S2x256x16x64_S1x256x4x64_0_0_12_0 _ _ _ rfl
      (sv_fill 1 1 (by decide) (by decide) rfl rfl rfl _ inb_S2x256x16x64_S1x256x4x64_1_0_8_0 _ _ _ rfl
        (sv_fill 1 0 (by decide) (by decide) rfl rfl rfl _ inb_S2x256x16x64_S1x256x4x64_0_0_8_0 _ _ _ rfl hf)))

/-- The three sends of values, and the first of the device's own stores. -/
theorem part5_spec (d0 : Dev nD) (h5 : k0_cond5 d0 = 1#1) (f : Vec F S3x2x256x4x64 .bf16) (hf : Filled 6 f (vs m 0)) (g : Vec F S2x256x4x64 .bf16) (l : List (Dev nD × Cl))
    {Q : FVec F S256x4x64 .bf16 → sProp 𝕄} :
    iprop(records m K ∗ (kM.view.loc ((0 : Dev nD) : Thread nD τ) ↦{fullShare} ks m 0) ∗ (vM.view.loc ((0 : Dev nD) : Thread nD τ) ↦{fullShare} vs m 0) ∗ (svM.view.loc ((0 : Dev nD) : Thread nD τ) ↦{fullShare} f) ∗ (rkM.view.loc ((0 : Dev nD) : Thread nD τ) ↦{fullShare} g) ∗ valGo 0 ∗ valGo 1 ∗ valGo 2
        ∗ owesL 0 ((1, .vr) :: (2, .vr) :: (3, .vr) :: l)
        ∗ ((kM.view.loc ((0 : Dev nD) : Thread nD τ) ↦{fullShare} ks m 0) -∗ (vM.view.loc ((0 : Dev nD) : Thread nD τ) ↦{fullShare} vs m 0)
            -∗ (rkM.view.loc ((0 : Dev nD) : Thread nD τ) ↦{fullShare} (rkM.access (Rect.unit (s := S2x256x4x64) ![0, 0, 0, 0] S1x256x4x64.size inb_S2x256x4x64_S1x256x4x64_0_0_0_0)).write (Elt F) g
                (k0_pay14 (kM.view.readAt (Elt F) (Rect.unit (s := S2x256x16x64) ![0, 0, 0, 0] S1x256x4x64.size inb_S2x256x16x64_S1x256x4x64_0_0_0_0).toLoadRect (ks m 0))) Finset.univ)
            -∗ cred (tallyAt (kcell (0, .vs 0)) () NK) -∗ cred (tallyAt (kcell (0, .vs 1)) () NK) -∗ cred (tallyAt (kcell (0, .vs 2)) () NK) -∗ owesL 0 l
            -∗ Q (k0_pay15 (vM.view.readAt (Elt F) (Rect.unit (s := S2x256x16x64) ![0, 0, 0, 0] S1x256x4x64.size inb_S2x256x16x64_S1x256x4x64_0_0_0_0).toLoadRect (vs m 0)))))
      ⊢ WP 0 (k0_part5 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 d0 h5) Q := by
  rw [k0_part5_eq_skeleton]; unfold k0_part5_skel
  simp only [Prog.lift, Prog.bind_op, Prog.bind_ret, Prog.pure_eq_ret]
  iintro ⟨#Hrec, HK, HV, HS, HR, Hg0, Hg1, Hg2, HO, Hk⟩
  ihave HS' := (sv_split 0 hf) $$ HS
  icases HS' with ⟨H0, H1, H2⟩
  iapply (send_values m K 0 _ (Fin.ext k0_dev8_eq) ((2, .vr) :: (3, .vr) :: l)) $$ [H0 Hg0 HO]
  · isplitr; · iexact Hrec
    isplitl [H0]; · iexact H0
    isplitl [Hg0]; · iexact Hg0
    iexact HO
  iintro ⟨Hc0, HO⟩
  iapply (send_values m K 1 _ (Fin.ext k0_dev9_eq) ((3, .vr) :: l)) $$ [H1 Hg1 HO]
  · isplitr; · iexact Hrec
    isplitl [H1]; · iexact H1
    isplitl [Hg1]; · iexact Hg1
    iexact HO
  iintro ⟨Hc1, HO⟩
  iapply (send_values m K 2 _ (Fin.ext k0_dev10_eq) l) $$ [H2 Hg2 HO]
  · isplitr; · iexact Hrec
    isplitl [H2]; · iexact H2
    isplitl [Hg2]; · iexact Hg2
    iexact HO
  iintro ⟨Hc2, HO⟩
  iapply (ld 0 kM) $$ HK; iintro HK
  iapply (ld 0 rkM) $$ HR; iintro HR
  iapply (st 0 rkM) $$ HR; iintro HR
  iapply (ld 0 vM) $$ HV; iintro HV
  iapply WP_ret
  iapply Hk $$ HK HV HR Hc0 Hc1 Hc2 HO

end Parts

end Cert.Attn

end
-- ==== Proof.Entry.lean ====
/-
# The entry: signals, barrier, and the hand-out

Each device tells the other three that it is there, handing each the place it may write into, waits for theirs, and
device 0 then hands out the keys and values.
-/
module

public import proofs.«01_k».proof.Proof.Scatter

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

/-! ## The signals -/

/-- The list of the other devices from `n` on starts with `n`, if that is another one. -/
theorem others_here : ∀ c n : Dev nD, c ≠ n → others c n.val = n :: others c (n.val + 1) := by decide
/-- It skips the device itself. -/
theorem others_skip : ∀ c n : Dev nD, c = n → others c n.val = others c (n.val + 1) := by decide
/-- It ends after device 3. -/
theorem others_end : ∀ c : Dev nD, others c 4 = [] := by decide
/-- A device pays every other device's barrier. -/
theorem mem_bar : ∀ c n : Dev nD, c ≠ n → ((n, Cl.bar) : Dev nD × Cl) ∈ pays c := by decide

section Entry
variable (m : (ℓ : Loc nD τ sig) → Buf (Elt F) ℓ) (K : Dev nD × Cl → ℕ) (c : Dev nD)

/-- What a device holds for its signals from device `n` on, with all it owes. -/
def toSignal (n : ℕ) : sProp 𝕄 :=
  iprop(bigSepL (others c n) (fun t => iprop(dutyTok ER (kcell (t, .bar)) 0 c ∗ barPay t c)) ∗ owesL c (bars c n ++ due1 c))

/-- One signal, if it is to another device. -/
theorem signal_spec (n : Dev nD) (b : BitVec 1) (hb : b = 1#1 ↔ c ≠ n) (dev : b = 1#1 → Dev nD) (hd : ∀ h, dev h = n) {α : Type}
    {p : Prog (TpuEff nD τ sig (Elt F) Λ₀ .tc) α} {Q : α → sProp 𝕄} :
    iprop(records m K ∗ toSignal (F := F) c n.val ∗ (toSignal (F := F) c (n.val + 1) -∗ WP c p Q))
      ⊢ WP c (if h : b = 1#1 then (semSignalWord (dev h) barS 1#32 >>= fun _ => p) else p) Q := by
  by_cases h : b = 1#1
  · have hn := hb.mp h
    rw [dif_pos h]
    simp only [semSignalWord, Prog.bind_op, Prog.bind_ret]
    unfold toSignal bars
    rw [others_here c n hn, bigSepL_cons']
    iintro ⟨#Hrec, ⟨⟨⟨Ht, Hp⟩, HS⟩, HO⟩, Hk⟩
    iapply (step_signal m K c (dev h) n (hd h) (bars c (n.val + 1) ++ due1 c) (mem_bar c n hn) (sem := barS) rfl (k' := 1) rfl) $$ [Ht Hp HO]
    · isplitr; · iexact Hrec
      isplitl [Ht]; · iexact Ht
      isplitl [Hp]; · dsimp only [pay]; iexact Hp
      iexact HO
    iintro HO
    iapply Hk
    isplitl [HS]; · iexact HS
    iexact HO
  · rw [dif_neg h]
    have hn : c = n := by by_contra hc; exact h (hb.mpr hc)
    unfold toSignal bars
    rw [others_skip c n hn]
    iintro ⟨-, HS, Hk⟩
    iapply Hk
    iexact HS

/-- The first branch is taken on every device but 0. -/
theorem cond1_iff : ∀ c : Dev nD, k0_cond1 c = 1#1 ↔ c ≠ 0 := by decide +kernel
/-- The second on every device but 1. -/
theorem cond2_iff : ∀ c : Dev nD, k0_cond2 c = 1#1 ↔ c ≠ 1 := by decide +kernel
/-- The third on every device but 2. -/
theorem cond3_iff : ∀ c : Dev nD, k0_cond3 c = 1#1 ↔ c ≠ 2 := by decide +kernel
/-- The fourth on every device but 3. -/
theorem cond4_iff : ∀ c : Dev nD, k0_cond4 c = 1#1 ↔ c ≠ 3 := by decide +kernel
/-- The fifth on device 0. -/
theorem cond5_iff : ∀ c : Dev nD, k0_cond5 c = 1#1 ↔ c = 0 := by decide +kernel

/-! ## The barrier -/

/-- The places device `c` may write its part into. -/
def places : sProp 𝕄 :=
  iprop((∃ f, cbPts (F := F) (c + 1) 0 fullShare f) ∗ (∃ f, cbPts (F := F) (c + 2) 1 fullShare f) ∗ (∃ f, cbPts (F := F) (c + 3) 2 fullShare f))
/-- The key and value buffers of the other devices, which only device 0 gets. -/
def gifts : sProp 𝕄 :=
  if c = 0 then iprop(((∃ f, rkPts (F := F) 1 f) ∗ (∃ f, rvPts (F := F) 1 f)) ∗ ((∃ f, rkPts (F := F) 2 f) ∗ (∃ f, rvPts (F := F) 2 f)) ∗ ((∃ f, rkPts (F := F) 3 f) ∗ (∃ f, rvPts (F := F) 3 f))) else iprop(emp)

/-- A device's slot at the next device is slot 0. -/
theorem slot_of1 : ∀ c : Dev nD, c + 1 - c - 1 = 0 := by decide
/-- Its slot at the second next is slot 1. -/
theorem slot_of2 : ∀ c : Dev nD, c + 2 - c - 1 = 1 := by decide
/-- Its slot at the third next is slot 2. -/
theorem slot_of3 : ∀ c : Dev nD, c + 3 - c - 1 = 2 := by decide

/-- What the barrier hands over. -/
theorem bar_got : bigSep (payers c .bar) (fun d => pay m c .bar d) ⊢ iprop(places (F := F) c ∗ gifts (F := F) c) := by
  rw [bigSep_eq_bigSepL_of_eq [c + 1, c + 2, c + 3] ((payers_bar c).trans (by simp)) (payers_bar_nodup c)]
  simp only [bigSepL_cons', bigSepL_nil]
  dsimp only [pay]
  unfold barPay places gifts
  rw [slot_of1, slot_of2, slot_of3]
  by_cases hc : c = 0
  · subst hc
    simp only [if_true]
    iintro ⟨⟨H1, G1⟩, ⟨H2, G2⟩, ⟨H3, G3⟩, -⟩
    isplitl [H1 H2 H3]
    · isplitl [H1]; · iexact H1
      isplitl [H2]; · iexact H2
      iexact H3
    isplitl [G1]; · iexact G1
    isplitl [G2]; · iexact G2
    iexact G3
  · simp only [if_neg hc]
    iintro ⟨⟨H1, -⟩, ⟨H2, -⟩, ⟨H3, -⟩, -⟩
    isplitl [H1 H2 H3]
    · isplitl [H1]; · iexact H1
      isplitl [H2]; · iexact H2
      iexact H3
    ipureintro; trivial

/-- The barrier ranks below all that is owed when it is waited for. -/
theorem bar_low : ∀ c : Dev nD, ∀ ck ∈ bars c 4 ++ due1 c, rank .bar < rank ck.2 := by decide

/-! ## The hand-out -/

/-- The payments device 0 makes when it hands out keys and values. -/
def scatToks : sProp 𝕄 := bigSepL (scat ++ scatDeps) fun ck => dutyTok ER (kcell ck) 0 (0 : Dev nD)
/-- The device's own key and value buffers, which only device 0 keeps. -/
def kept : sProp 𝕄 := if c = 0 then iprop((∃ f, rkPts (F := F) 0 f) ∗ (∃ f, rvPts (F := F) 0 f) ∗ scatToks (F := F)) else iprop(emp)
/-- The two send buffers, at whatever they hold. -/
def sendBufs : sProp 𝕄 := iprop((∃ f, skM.view.loc ((c : Dev nD) : Thread nD τ) ↦{fullShare} f) ∗ (∃ f, svM.view.loc ((c : Dev nD) : Thread nD τ) ↦{fullShare} f))
/-- After the hand-out: device 0 has its own keys and values, and its sends are on their way. -/
def handed : sProp 𝕄 :=
  if c = 0 then iprop(rkPts 0 (kdata m 0) ∗ rvPts 0 (vdata m 0) ∗ bigSepL scatDeps fun ck => cred (tallyAt (kcell ck) () NK)) else sendBufs c

/-- The working keys are the whole buffer. -/
theorem rkPts_whole (f : Vec F S2x256x4x64 .bf16) : rkPts c f = (rkM.view.loc (c : Thread nD τ) ↦{fullShare} f : sProp 𝕄) := by
  unfold rkPts; rw [View.set_whole]
/-- The working values are the whole buffer. -/
theorem rvPts_whole (f : Vec F S2x256x4x64 .bf16) : rvPts c f = (rvM.view.loc (c : Thread nD τ) ↦{fullShare} f : sProp 𝕄) := by
  unfold rvPts; rw [View.set_whole]

end Entry

end Cert.Attn

end
-- ==== Proof.Handout.lean ====
/-
# The entry of a device, as a whole

From the first signal to the loads of the weights.
-/
module

public import proofs.«01_k».proof.Proof.Entry

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

section Entry
variable (m : (ℓ : Loc nD τ sig) → Buf (Elt F) ℓ) (K : Dev nD × Cl → ℕ) (c : Dev nD)

/-- The device's inputs, in place. -/
def staged : sProp 𝕄 :=
  iprop((xM.view.loc ((c : Dev nD) : Thread nD τ) ↦{fullShare} xs m c) ∗ (wqM.view.loc ((c : Dev nD) : Thread nD τ) ↦{fullShare} wqs m c) ∗ (kM.view.loc ((c : Dev nD) : Thread nD τ) ↦{fullShare} ks m c) ∗ (vM.view.loc ((c : Dev nD) : Thread nD τ) ↦{fullShare} vs m c) ∗ (woM.view.loc ((c : Dev nD) : Thread nD τ) ↦{fullShare} wos m c))

/-- A device's number, as the program computes it. -/
def numW : BitVec 32 := Scalar.remsi (Scalar.divsi (Dev.word c) 1#32) 4#32

/-- A load of the whole query weights. -/
theorem ld_wq (X : Vec F S512x256 .bf16) :
    wqM.view.readAt (Elt F) (Rect.unit (s := S512x256) ![0, 0] S512x256.size inb_S512x256_S512x256_0_0).toLoadRect X = X := by
  funext i
  show X _ = X i
  congr 1
  funext a
  apply Fin.ext
  match a with
  | ⟨0, _⟩ => show 0 + 1 * (i 0).val = (i 0).val; omega
  | ⟨1, _⟩ => show 0 + 1 * (i 1).val = (i 1).val; omega

/-- A load of the whole output weights. -/
theorem ld_wo (X : Vec F S256x512 .bf16) :
    woM.view.readAt (Elt F) (Rect.unit (s := S256x512) ![0, 0] S256x512.size inb_S256x512_S256x512_0_0).toLoadRect X = X := by
  funext i
  show X _ = X i
  congr 1
  funext a
  apply Fin.ext
  match a with
  | ⟨0, _⟩ => show 0 + 1 * (i 0).val = (i 0).val; omega
  | ⟨1, _⟩ => show 0 + 1 * (i 1).val = (i 1).val; omega

/-- The payments of the hand-out with the places they write into, send by send. -/
theorem goes : iprop(scatToks (F := F) ∗ gifts (F := F) 0) ⊢ iprop(keyGo (F := F) 0 ∗ keyGo (F := F) 1 ∗ keyGo (F := F) 2 ∗ valGo (F := F) 0 ∗ valGo (F := F) 1 ∗ valGo (F := F) 2) := by
  unfold scatToks gifts keyGo valGo
  rw [if_pos rfl]
  simp only [List.cons_append, List.nil_append, bigSepL_cons', bigSepL_nil]
  iintro ⟨⟨A1, A2, A3, B1, B2, B3, D1, D2, D3, E1, E2, E3, -⟩, ⟨G1, W1⟩, ⟨G2, W2⟩, G3, W3⟩
  isplitl [A1 D1 G1]
  · isplitl [G1]; · iexact G1
    isplitl [D1]; · iexact D1
    iexact A1
  isplitl [A2 D2 G2]
  · isplitl [G2]; · iexact G2
    isplitl [D2]; · iexact D2
    iexact A2
  isplitl [A3 D3 G3]
  · isplitl [G3]; · iexact G3
    isplitl [D3]; · iexact D3
    iexact A3
  isplitl [B1 E1 W1]
  · isplitl [W1]; · iexact W1
    isplitl [E1]; · iexact E1
    iexact B1
  isplitl [B2 E2 W2]
  · isplitl [W2]; · iexact W2
    isplitl [E2]; · iexact E2
    iexact B2
  isplitl [W3]; · iexact W3
  isplitl [E3]; · iexact E3
  iexact B3

/-- What device 0 keeps for the handing out. -/
theorem kept_zero : kept (F := F) 0 = iprop((∃ f, rkPts (F := F) 0 f) ∗ (∃ f, rvPts (F := F) 0 f) ∗ scatToks (F := F)) := if_pos rfl
/-- What device 0 has after it. -/
theorem handed_zero : handed m 0 = iprop(rkPts 0 (kdata m 0) ∗ rvPts 0 (vdata m 0) ∗ bigSepL scatDeps fun ck => cred (tallyAt (kcell ck) () NK)) := if_pos rfl

/-- Any other device has its send buffers. -/
theorem handed_other {c : Dev nD} (hc : c ≠ 0) : handed m c = sendBufs c := if_neg hc

/-- The send buffers hold something. -/
theorem sends_any (c : Dev nD) : sendBufs (F := F) c ⊢ iprop((∃ f, skM.view.loc (c : Thread nD τ) ↦{fullShare} f) ∗ ∃ f, svM.view.loc (c : Thread nD τ) ↦{fullShare} f) := .rfl

/-- The wait at the barrier. -/
theorem wait_bar {α : Type} {k : PUnit → Prog (TpuEff nD τ sig (Elt F) Λ₀ .tc) α} {Q : α → sProp 𝕄} :
    iprop(records m K ∗ levAts L lv ∗ cred (tallyAt (kcell (c, .bar)) () 3) ∗ owesL c (bars c 4 ++ due1 c) ∗ atPos ER (kcell (c, .bar)) 0 ∅ 0)
      ⊢ iprop(((owesL c (bars c 4 ++ due1 c) ∗ atPos ER (kcell (c, .bar)) 1 ∅ 0 ∗ bigSep (payers c .bar) (fun d => pay m c .bar d)) -∗ WP c (k ⟨⟩) Q)
          -∗ WP c (semWaitWord barS 3#32 >>= k) Q) := by
  simp only [semWaitWord, Prog.bind_op, Prog.bind_ret]
  exact step_wait m K c .bar (bars c 4 ++ due1 c) (bar_low c) (n := 3) (fun K' => wpE_semWait_eq 𝒱₀ (c : Thread nD τ) none Set.univ (sem := barS) (k := 3) K')
    (by rw [payers_bar, Finset.card_eq_three.mpr ⟨c + 1, c + 2, c + 3, by revert c; decide, by revert c; decide, by revert c; decide, rfl⟩]; rfl)

/-- From the first signal to the loads of the weights. -/
theorem part7_spec {Q : (Σ' (d0 : Dev nD) (v2 : BitVec 32) (v20 : FVec F S512x256 .bf16) (v22 : FVec F S256x512 .bf16) (v25 : FVec F S256x256 .f32), FVec F S256x512 .bf16) → sProp 𝕄} :
    iprop(records m K ∗ levAts L lv ∗ toSignal (F := F) c 0 ∗ cred (tallyAt (kcell (c, .bar)) () 3) ∗ atPos ER (kcell (c, .bar)) 0 ∅ 0
        ∗ kept (F := F) c ∗ sendBufs (F := F) c ∗ staged m c
        ∗ (staged m c -∗ atPos ER (kcell (c, .bar)) 1 ∅ 0 -∗ places (F := F) c -∗ handed m c -∗ owesL c (arrs c)
            -∗ Q ⟨c, numW c, k0_pay19 (wqs m c), k0_pay20 (wos m c), k0_pay21 (wqs m c) (ldx 0 inb_S2x256x512_S1x256x512_0_0_0 (xs m c)),
              k0_pay22 (ldx 1 inb_S2x256x512_S1x256x512_1_0_0 (xs m c))⟩))
      ⊢ WP c (k0_part7 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10) Q := by
  rw [k0_part7_eq_skeleton]; unfold k0_part7_skel numW ldx
  iintro ⟨#Hrec, #Hlev, HS, Hcr, Hat, Hkept, Hsend, Hst, Hk⟩
  iapply WP_dev
  iapply (signal_spec m K c 0 _ (cond1_iff c) _ (fun _ => Fin.ext k0_dev1_eq))
  isplitr; · iexact Hrec
  isplitl [HS]; · iexact HS
  iintro HS
  iapply (signal_spec m K c 1 _ (cond2_iff c) _ (fun _ => Fin.ext k0_dev2_eq))
  isplitr; · iexact Hrec
  isplitl [HS]; · iexact HS
  iintro HS
  iapply (signal_spec m K c 2 _ (cond3_iff c) _ (fun _ => Fin.ext k0_dev3_eq))
  isplitr; · iexact Hrec
  isplitl [HS]; · iexact HS
  iintro HS
  iapply (signal_spec m K c 3 _ (cond4_iff c) _ (fun _ => Fin.ext k0_dev4_eq))
  isplitr; · iexact Hrec
  isplitl [HS]; · iexact HS
  iintro HS
  unfold toSignal
  icases HS with ⟨-, HO⟩
  iapply (wait_bar m K c) $$ [Hcr HO Hat]
  · isplitr; · iexact Hrec
    isplitr; · iexact Hlev
    isplitl [Hcr]; · iexact Hcr
    isplitl [HO]; · iexact HO
    iexact Hat
  iintro ⟨HO, Hat, Hpay⟩
  ihave Hgot := (bar_got m c) $$ Hpay
  icases Hgot with ⟨Hpl, Hgifts⟩
  unfold staged
  icases Hst with ⟨HX, HWQ, HK, HV, HWO⟩
  by_cases hc : c = 0
  · subst hc
    have hd : bars 0 4 ++ due1 0 = (1, Cl.kr) :: (2, Cl.kr) :: (3, Cl.kr) :: (1, Cl.vr) :: (2, Cl.vr) :: (3, Cl.vr) :: arrs 0 := by decide
    rw [hd]
    rw [handed_zero]
    ihave Hkept := (Entails.of_eq kept_zero) $$ Hkept
    icases Hkept with ⟨⟨%fk, HRK⟩, ⟨%fv, HRV⟩, Htok⟩
    ihave Hsend := (sends_any (F := F) 0) $$ Hsend
    icases Hsend with ⟨⟨%f6, HSK⟩, ⟨%f7, HSV⟩⟩
    ihave Hgo := (goes (F := F)) $$ [Htok Hgifts]
    · isplitl [Htok]; · iexact Htok
      iexact Hgifts
    icases Hgo with ⟨Hk0, Hk1, Hk2, Hv0, Hv1, Hv2⟩
    ihave HRK := (Entails.of_eq (rkPts_whole (F := F) 0 fk)) $$ HRK
    ihave HRV := (Entails.of_eq (rvPts_whole (F := F) 0 fv)) $$ HRV
    iapply (WP_yes ((cond5_iff 0).mpr rfl))
    iapply WP_bind
    iapply (part1_spec m f6)
    isplitl [HK]; · iexact HK
    isplitl [HSK]; · iexact HSK
    iintro %f6' %h6 HK HSK
    iapply WP_bind
    iapply (part2_spec m K 0 _ f6' h6 _)
    isplitr; · iexact Hrec
    isplitl [HK]; · iexact HK
    isplitl [HSK]; · iexact HSK
    isplitl [Hk0]; · iexact Hk0
    isplitl [HO]; · iexact HO
    iintro HK HS1 HS2 Hc0 HO
    iapply WP_bind
    iapply (part3_spec m K 0 _ f7 _)
    isplitr; · iexact Hrec
    isplitl [HV]; · iexact HV
    isplitl [HSV]; · iexact HSV
    isplitl [HS1]; · iexact HS1
    isplitl [HS2]; · iexact HS2
    isplitl [Hk1]; · iexact Hk1
    isplitl [Hk2]; · iexact Hk2
    isplitl [HO]; · iexact HO
    iintro %f7' %v %h7 HV HSV Hc1 Hc2 HO
    iapply WP_bind
    iapply (part4_spec m f7' h7 v)
    isplitl [HV]; · iexact HV
    isplitl [HSV]; · iexact HSV
    iintro %f8 %h8 HV HSV
    iapply WP_bind
    iapply (part5_spec m K 0 _ f8 h8 fk _)
    isplitr; · iexact Hrec
    isplitl [HK]; · iexact HK
    isplitl [HV]; · iexact HV
    isplitl [HSV]; · iexact HSV
    isplitl [HRK]; · iexact HRK
    isplitl [Hv0]; · iexact Hv0
    isplitl [Hv1]; · iexact Hv1
    isplitl [Hv2]; · iexact Hv2
    isplitl [HO]; · iexact HO
    iintro HK HV HRK Hd0 Hd1 Hd2 HO
    iapply (ldB 0 rvM) $$ HRV; iintro HRV
    iapply (stB 0 rvM) $$ HRV; iintro HRV
    iapply (ldB 0 kM) $$ HK; iintro HK
    iapply (ldB 0 rkM) $$ HRK; iintro HRK
    iapply (stB 0 rkM) $$ HRK; iintro HRK
    iapply (ldB 0 vM) $$ HV; iintro HV
    iapply (ldB 0 rvM) $$ HRV; iintro HRV
    iapply (stB 0 rvM) $$ HRV; iintro HRV
    iapply (ldB 0 wqM) $$ HWQ; iintro HWQ
    iapply (ldB 0 woM) $$ HWO; iintro HWO
    iapply (ldB 0 xM) $$ HX; iintro HX
    iapply (ldB 0 xM) $$ HX; iintro HX
    rw [ld_wq, ld_wo]
    iapply WP_pure
    ihave HRK' := (Entails.of_eq (congrArg (fun g => (rkM.view.loc ((0 : Dev nD) : Thread nD τ) ↦{fullShare} g : sProp 𝕄))
      (rk_fill (F := F) rfl rfl rfl rfl inb_S2x256x4x64_S1x256x4x64_0_0_0_0 inb_S2x256x4x64_S1x256x4x64_1_0_0_0
        inb_S2x256x16x64_S1x256x4x64_0_0_0_0 inb_S2x256x16x64_S1x256x4x64_1_0_0_0 fk (ks m 0) _ (k0_pay17 (kM.view.readAt (Elt F) (Rect.unit (s := S2x256x16x64) ![1, 0, 0, 0] S1x256x4x64.size inb_S2x256x16x64_S1x256x4x64_1_0_0_0).toLoadRect (ks m 0))) rfl rfl))) $$ HRK
    ihave HRV' := (Entails.of_eq (congrArg (fun g => (rvM.view.loc ((0 : Dev nD) : Thread nD τ) ↦{fullShare} g : sProp 𝕄))
      (rv_fill (F := F) rfl rfl rfl rfl inb_S2x256x4x64_S1x256x4x64_0_0_0_0 inb_S2x256x4x64_S1x256x4x64_1_0_0_0
        inb_S2x256x16x64_S1x256x4x64_0_0_0_0 inb_S2x256x16x64_S1x256x4x64_1_0_0_0 fv (vs m 0) (k0_pay16 (k0_pay15 (vM.view.readAt (Elt F) (Rect.unit (s := S2x256x16x64) ![0, 0, 0, 0] S1x256x4x64.size inb_S2x256x16x64_S1x256x4x64_0_0_0_0).toLoadRect (vs m 0)))) (k0_pay18 (vM.view.readAt (Elt F) (Rect.unit (s := S2x256x16x64) ![1, 0, 0, 0] S1x256x4x64.size inb_S2x256x16x64_S1x256x4x64_1_0_0_0).toLoadRect (vs m 0))) rfl rfl))) $$ HRV
    iapply Hk $$ [HX HWQ HK HV HWO] Hat Hpl [HRK' HRV' Hc0 Hc1 Hc2 Hd0 Hd1 Hd2] HO
    · isplitl [HX]; · iexact HX
      isplitl [HWQ]; · iexact HWQ
      isplitl [HK]; · iexact HK
      isplitl [HV]; · iexact HV
      iexact HWO
    rw [rkPts_whole, rvPts_whole]
    simp only [bigSepL_cons', bigSepL_nil]
    isplitl [HRK']; · iexact HRK'
    isplitl [HRV']; · iexact HRV'
    isplitl [Hc0]; · iexact Hc0
    isplitl [Hc1]; · iexact Hc1
    isplitl [Hc2]; · iexact Hc2
    isplitl [Hd0]; · iexact Hd0
    isplitl [Hd1]; · iexact Hd1
    isplitl [Hd2]; · iexact Hd2
    iempintro
  · iapply (WP_no (fun h => hc ((cond5_iff c).mp h)))
    have hd : bars c 4 ++ due1 c = arrs c := by revert c; decide
    rw [hd]
    rw [handed_other m hc]
    iapply (ldB c wqM) $$ HWQ; iintro HWQ
    iapply (ldB c woM) $$ HWO; iintro HWO
    iapply (ldB c xM) $$ HX; iintro HX
    iapply (ldB c xM) $$ HX; iintro HX
    rw [ld_wq, ld_wo]
    iapply WP_pure
    iapply Hk $$ [HX HWQ HK HV HWO] Hat Hpl [Hsend] HO
    · isplitl [HX]; · iexact HX
      isplitl [HWQ]; · iexact HWQ
      isplitl [HK]; · iexact HK
      isplitl [HV]; · iexact HV
      iexact HWO
    iexact Hsend

end Entry

end Cert.Attn

end
-- ==== Proof.Exchange.lean ====
/-
# The steps of the exchange

A wait for a copy, loads and stores in one slot of the exchange buffer, and the send of a device's part.
-/
module

public import proofs.«01_k».proof.Proof.Handout

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

section Rules
variable (m : (ℓ : Loc nD τ sig) → Buf (Elt F) ℓ) (K : Dev nD × Cl → ℕ) (c : Dev nD)

/-- A wait for a copy, at one of the device's own cells. -/
theorem wait_copy {α : Type} {Q : α → sProp 𝕄} {k : PUnit → Prog (TpuEff nD τ sig (Elt F) Λ₀ .tc) α} (x : Cl) (l : List (Dev nD × Cl))
    (hl : ∀ ck ∈ l, rank x < rank ck.2) {n : ℕ} {sp sp' : Space} {s s' : Shape} {e e' : EltTy} {sem : DmaSem sig} {src : Memref sig .tc sp' s' e'}
    {dst : Memref sig .tc sp s e} {hsrc : src.view.WordExact} {hdst : dst.view.WordExact} (hs : SemLoc.dma sem = csem x) (hN : dst.view.dmaCredit = n)
    (hn : n = (payers c x).card * amt x) :
    iprop(records m K ∗ levAts L lv ∗ cred (tallyAt (kcell (c, x)) () n) ∗ owesL c l ∗ atPos ER (kcell (c, x)) 0 ∅ 0)
      ⊢ iprop(((owesL c l ∗ atPos ER (kcell (c, x)) 1 ∅ 0 ∗ bigSep (payers c x) (fun d => pay m c x d)) -∗ WP c (k ⟨⟩) Q)
          -∗ WP c (Prog.lift (.waitDma2 sem src dst hsrc hdst) >>= k) Q) := by
  simp only [Prog.lift, Prog.bind_op, Prog.bind_ret]
  exact step_wait m K c x l hl (fun K' => (wpE_waitDma2_eq 𝒱₀ (c : Thread nD τ) none Set.univ (sem := sem) (src := src) (dst := dst) K').trans (by rw [hs, hN])) hn

omit [FloatOps F] [Named F] in
/-- A block of one slot of the exchange buffer lies in that slot. -/
theorem block_in_slot (o : Fin 4) {b : ℕ} {off : Fin 4 → ℕ} (ho : off = ![o.val, b, 0, 0])
    (inb : ∀ a, off a + S1x1x256x512.size a ≤ S4x2x256x512.size a) :
    ((Memref.whole cc0_scratch4).access (Rect.unit (s := S4x2x256x512) off S1x1x256x512.size inb)).set ⊆ cbSet o := by
  subst ho
  intro i hi
  have hi' : i ∈ (Rect.unit (s := S4x2x256x512) ![o.val, b, 0, 0] S1x1x256x512.size inb).set := by
    rwa [show ((Memref.whole cc0_scratch4).access (Rect.unit (s := S4x2x256x512) ![o.val, b, 0, 0] S1x1x256x512.size inb)).set
      = (Rect.unit (s := S4x2x256x512) ![o.val, b, 0, 0] S1x1x256x512.size inb).set from View.set_slice_whole _ _] at hi
  have h : o.val ≤ (i 0).val ∧ (i 0).val < o.val + 1 := Rect.mem_set_unit.mp hi' 0
  exact (mem_cbSet o i).mpr (Fin.ext (by omega))

/-- A load from a buffer of which part is held. -/
theorem ld_within {α : Type} {Q : α → sProp 𝕄} {cs : CoreSpace} {s : Shape} {e : EltTy} (M : Memref sig .tc cs s e) {q : PosShare TreeShare}
    {f : Buf (Elt F) (M.view.loc (c : Thread nD τ))} {r : LoadRect s} {hl : M.view.LoadsAt r} (S : Finset (Idx (M.view.loc (c : Thread nD τ)))) (hS : M.view.setOn r.set ⊆ S)
    {k : (r.shape.Idx → Elt F e) → Prog (TpuEff nD τ sig (Elt F) Λ₀ .tc) α} :
    (M.view.loc (c : Thread nD τ) ↦[S]{q} f : sProp 𝕄)
      ⊢ iprop(((M.view.loc (c : Thread nD τ) ↦[S]{q} f) -∗ WP c (k (M.view.readAt (Elt F) r f)) Q) -∗ WP c (.op (.load M r hl) k) Q) :=
  wp_load 𝒱₀ (c : Thread nD τ) none Set.univ (m := M) hS

/-- A store into a buffer of which part is held. -/
theorem st_within {α : Type} {Q : α → sProp 𝕄} {cs : CoreSpace} {s : Shape} {e : EltTy} (M : Memref sig .tc cs s e)
    {f : Buf (Elt F) (M.view.loc (c : Thread nD τ))} {r : Rect s} {w : r.shape.Idx → Elt F e} {hx : (M.access r).Stores Finset.univ}
    {hm : Finset.univ = Finset.univ ∨ ∀ a, r.stride a = 1} (S : Finset (Idx (M.view.loc (c : Thread nD τ)))) (hS : (M.access r).set ⊆ S)
    {k : PUnit → Prog (TpuEff nD τ sig (Elt F) Λ₀ .tc) α} :
    (M.view.loc (c : Thread nD τ) ↦[S]{fullShare} f : sProp 𝕄)
      ⊢ iprop(((M.view.loc (c : Thread nD τ) ↦[S]{fullShare} (M.access r).write (Elt F) f w Finset.univ) -∗ WP c (k ⟨⟩) Q)
          -∗ WP c (.op (.store M r w Finset.univ hx hm) k) Q) :=
  wp_store 𝒱₀ (c : Thread nD τ) none Set.univ (m := M) (r := r) (Mk := Finset.univ) hS

/-- A load from one slot of the exchange buffer. -/
theorem ld_slot (o : Fin 4) {b : ℕ} {off : Fin 4 → ℕ} (ho : off = ![o.val, b, 0, 0]) {α : Type} {Q : α → sProp 𝕄} {q : PosShare TreeShare}
    {f : Vec F S4x2x256x512 .bf16} {inb : ∀ a, off a + S1x1x256x512.size a ≤ S4x2x256x512.size a} {hl}
    {k : Vec F S1x1x256x512 .bf16 → Prog (TpuEff nD τ sig (Elt F) Λ₀ .tc) α} :
    cbPts c o q f ⊢ iprop((cbPts c o q f -∗ WP c (k (cbM.view.readAt (Elt F) (Rect.unit (s := S4x2x256x512) off S1x1x256x512.size inb).toLoadRect f)) Q)
      -∗ WP c (Prog.lift (.load cbM (Rect.unit (s := S4x2x256x512) off S1x1x256x512.size inb).toLoadRect hl) >>= k) Q) := by
  simp only [Prog.lift, Prog.bind_op, Prog.bind_ret]
  unfold cbPts
  exact ld_within c cbM (cbSet o) (by have h := block_in_slot o ho inb; rwa [View.set_slice] at h)

/-- A store into one slot of the exchange buffer. -/
theorem st_slot (o : Fin 4) {b : ℕ} {off : Fin 4 → ℕ} (ho : off = ![o.val, b, 0, 0]) {α : Type} {Q : α → sProp 𝕄}
    {f : Vec F S4x2x256x512 .bf16} {inb : ∀ a, off a + S1x1x256x512.size a ≤ S4x2x256x512.size a} {w : Vec F S1x1x256x512 .bf16} {hx hm}
    {k : PUnit → Prog (TpuEff nD τ sig (Elt F) Λ₀ .tc) α} :
    cbPts c o fullShare f ⊢ iprop((cbPts c o fullShare ((cbM.access (Rect.unit (s := S4x2x256x512) off S1x1x256x512.size inb)).write (Elt F) f w Finset.univ) -∗ WP c (k ⟨⟩) Q)
      -∗ WP c (Prog.lift (.store cbM (Rect.unit (s := S4x2x256x512) off S1x1x256x512.size inb) w Finset.univ hx hm) >>= k) Q) := by
  simp only [Prog.lift, Prog.bind_op, Prog.bind_ret]
  unfold cbPts
  exact st_within c cbM (cbSet o) (block_in_slot o ho inb)

/-- A device pays for the departures of its parts. -/
theorem mem_dep : ∀ (c : Dev nD) (o : Fin 3), (c, Cl.dep o) ∈ pays c := by decide
/-- A device pays for the landing of its part at the `o`-th next device. -/
theorem mem_arr : ∀ (c : Dev nD) (o : Fin 3), (c + (o.castSucc + 1), Cl.arr o) ∈ pays c := by decide

/-- A device sends its part to the device `o + 1` places on. -/
theorem send_part (o : Fin 3) (n t : Dev nD) (hn : n = t) (ht : t = c + (o.castSucc + 1)) (l : List (Dev nD × Cl)) {α : Type} {Q : α → sProp 𝕄}
    {k : PUnit → Prog (TpuEff nD τ sig (Elt F) Λ₀ .tc) α}
    {hsc : (cbSlot o.castSucc : Memref sig (Dev.tc n : Thread nD τ).2.kind .vmem S2x256x512 .bf16).view.ref.isScScratch = false}
    {hsrc : (cbSlot 3).view.WordExact} {hdst : (cbSlot o.castSucc : Memref sig (Dev.tc n : Thread nD τ).2.kind .vmem S2x256x512 .bf16).view.WordExact}
    {hsem : DmaTarget.Typed .vmem (.dma (sem3 cc0_scratch10 o)) (.remote (Dev.tc n : Thread nD τ) (cbSlot o.castSucc : Memref sig (Dev.tc n : Thread nD τ).2.kind .vmem S2x256x512 .bf16) (.dma (sem3 cc0_scratch9 o)) hsc)} :
    iprop(records m K ∗ cbPts c 3 (lend o) (allP m c) ∗ (∃ f, cbPts t o.castSucc fullShare f) ∗ dutyTok ER (kcell (c, .dep o)) 0 c ∗ dutyTok ER (kcell (t, .arr o)) 0 c
        ∗ owesL c ((t, .arr o) :: l))
      ⊢ iprop((cred (tallyAt (kcell (c, .dep o)) () NA) ∗ owesL c l -∗ WP c (k ⟨⟩) Q)
          -∗ WP c (Prog.lift (.enqueueDma (cbSlot 3) (.remote (Dev.tc n : Thread nD τ) (cbSlot o.castSucc) (.dma (sem3 cc0_scratch9 o)) hsc) (.dma (sem3 cc0_scratch10 o)) hsrc hdst hsem) >>= k) Q) := by
  subst hn
  have hx : (c, Cl.dep o) ∈ pays c := mem_dep c o
  have hy : (n, Cl.arr o) ∈ pays c := by rw [ht]; exact mem_arr c o
  have hd : n - (o.castSucc + 1) = c := by rw [ht]; exact add_sub_cancel_right c _
  simp only [Prog.lift, Prog.bind_op, Prog.bind_ret]
  iintro ⟨#Hrec, Hs, ⟨%fd, Hd⟩, Htx, Hty, HO⟩
  unfold cbPts
  iapply (step_send m K c n n rfl (.dep o) (.arr o) l hx hy rfl (src := cbSlot 3) (dst := cbSlot o.castSucc) rfl rfl fd (credit_cb o.castSucc)
    (Entails.refl _) (Entails.of_eq ((pointsTo_congr (copy_cb m o.castSucc c fd)).trans (by dsimp only [pay, slotP]; rw [hd]; rfl))))
  isplitr; · iexact Hrec
  isplitl [Hs]; · iexact Hs
  isplitl [Hd]; · iexact Hd
  isplitl [Htx]; · iexact Htx
  isplitl [Hty]; · iexact Hty
  iexact HO

end Rules

end Cert.Attn

end
-- ==== Proof.Compute.lean ====
/-
# The middle of the kernel

The waits for keys and values, the stores of a device's part and its three sends, part by part of the program.
-/
module

public import proofs.«01_k».proof.Proof.Exchange

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

section Compute
variable (m : (ℓ : Loc nD τ sig) → Buf (Elt F) ℓ) (K : Dev nD × Cl → ℕ) (c : Dev nD)

/-- A cell whose payments have all been taken. -/
def rested (x : Cl) : sProp 𝕄 := iprop(∃ R : ℕ, ⌜1 ≤ R ∨ payers c x = ∅⌝ ∗ atPos ER (kcell (c, x)) R ∅ 0)

omit [FloatOps F] [Named F] in
/-- A cell whose round was taken is at rest. -/
theorem rested_one (x : Cl) : atPos ER (kcell (c, x)) 1 ∅ 0 ⊢ rested (F := F) c x := by
  unfold rested
  iintro H
  iexists 1
  isplitr; · ipureintro; exact Or.inl le_rfl
  iexact H

omit [FloatOps F] [Named F] in
/-- A cell that nobody pays is at rest. -/
theorem rested_none (x : Cl) (h : payers c x = ∅) : atPos ER (kcell (c, x)) 0 ∅ 0 ⊢ rested (F := F) c x := by
  unfold rested
  iintro H
  iexists 0
  isplitr; · ipureintro; exact Or.inr h
  iexact H

/-- Where the device's keys come from: device 0 has filled its own buffer, the others wait for theirs. -/
def keysDue : sProp 𝕄 := if c = 0 then rkPts 0 (kdata m 0) else cred (tallyAt (kcell (c, .kr)) () NK)
/-- The values, or what it takes to wait for them. -/
def valsDue : sProp 𝕄 := if c = 0 then rvPts 0 (vdata m 0) else cred (tallyAt (kcell (c, .vr)) () NK)

/-- Device 0 has its keys. -/
theorem keysDue_zero : keysDue m 0 = rkPts 0 (kdata m 0) := if_pos rfl
/-- Any other device waits for them. -/
theorem keysDue_other {c : Dev nD} (h : c ≠ 0) : keysDue m c = cred (tallyAt (kcell (c, .kr)) () NK) := if_neg h
/-- Device 0 has its values. -/
theorem valsDue_zero : valsDue m 0 = rvPts 0 (vdata m 0) := if_pos rfl
/-- Any other device waits for them. -/
theorem valsDue_other {c : Dev nD} (h : c ≠ 0) : valsDue m c = cred (tallyAt (kcell (c, .vr)) () NK) := if_neg h

/-- The kernel's test for not being device 0. -/
theorem other_iff : ∀ c : Dev nD, Scalar.cmpi .ne (Scalar.extui (Scalar.cmpi .ne (numW c) 0#32) : BitVec 32) 0#32 = 1#1 ↔ c ≠ 0 := by decide +kernel

/-- The parts rank above the keys' and values' landings. -/
theorem arrs_high : ∀ (c : Dev nD), ∀ ck ∈ arrs c, rank .kr < rank ck.2 := by decide
/-- The landing of the keys brings the device's heads of device 0's keys. -/
theorem pay_kr {c : Dev nD} (h : c ≠ 0) : bigSep (payers c .kr) (fun d => pay m c .kr d) ⊢ rkPts c (kdata m c) := by
  rw [payers_kr c h, bigSep_singleton]; exact Entails.refl _
/-- The landing of the values brings the device's heads of device 0's values. -/
theorem pay_vr {c : Dev nD} (h : c ≠ 0) : bigSep (payers c .vr) (fun d => pay m c .vr d) ⊢ rvPts c (vdata m c) := by
  rw [payers_vr c h, bigSep_singleton]; exact Entails.refl _

/-- The queries of the second batch, and the mask's pieces. -/
theorem part8_spec (v20 : FVec F S512x256 .bf16) (v27 : FVec F S256x512 .bf16)
    {Q : (Σ' (v28 : FVec F S256x256 .f32) (v53 : IVec S256x256 32) (v56 : IVec S256x256 32) (v70 : IVec S256x256 1) (v72 : IVec S256x256 32), IVec S256x256 32) → sProp 𝕄} :
    Q ⟨k0_pay23 v20 v27, k0_pay24, k0_pay25, k0_pay26, k0_pay27, k0_pay28⟩ ⊢ WP c (k0_part8 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 v20 v27) Q := by
  rw [k0_part8_eq_skeleton]; unfold k0_part8_skel
  exact WP_pure

/-- The wait for the keys, and the first head. -/
theorem part9_spec (v25 : FVec F S256x256 .f32) (v53 v56 : IVec S256x256 32) (v70 : IVec S256x256 1) (v72 v73 : IVec S256x256 32)
    {Q : (Σ' (v79 : IVec S256x256 1) (v84 : FVec F S256x4x64 .bf16) (v103 : FVec F S256x256 .bf16), FVec F S256x256 .f32) → sProp 𝕄} :
    iprop(records m K ∗ levAts L lv ∗ keysDue m c ∗ atPos ER (kcell (c, .kr)) 0 ∅ 0 ∗ owesL c (arrs c)
        ∗ (rkPts c (kdata m c) -∗ rested c .kr -∗ owesL c (arrs c)
            -∗ Q ⟨k0_pay29 v53 v56 v70 v72 v73, k0_pay30 (ldk 0 inb_S2x256x4x64_S1x256x4x64_0_0_0_0 (kdata m c)),
              k0_pay31 v25 v53 v56 v70 v72 v73 (ldk 0 inb_S2x256x4x64_S1x256x4x64_0_0_0_0 (kdata m c)),
              k0_pay32 v25 v53 v56 v70 v72 v73 (ldk 0 inb_S2x256x4x64_S1x256x4x64_0_0_0_0 (kdata m c))⟩))
      ⊢ WP c (k0_part9 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 (numW c) v25 v53 v56 v70 v72 v73) Q := by
  rw [k0_part9_eq_skeleton]; unfold k0_part9_skel ldk
  iintro ⟨#Hrec, #Hlev, Hdue, Hat, HO, Hk⟩
  by_cases hc : c = 0
  · subst hc
    iapply (WP_no (fun h => (other_iff 0).mp h rfl))
    ihave HR := (Entails.of_eq (keysDue_zero m)) $$ Hdue
    ihave HR := (Entails.of_eq (rkPts_whole (F := F) 0 _)) $$ HR
    iapply (ldB 0 rkM) $$ HR; iintro HR
    iapply WP_pure
    ihave HR := (Entails.of_eq (rkPts_whole (F := F) 0 _).symm) $$ HR
    ihave Hre := (rested_none (F := F) 0 .kr payers_kr0) $$ Hat
    iapply Hk $$ HR Hre HO
  · iapply (WP_yes ((other_iff c).mpr hc))
    ihave Hcr := (Entails.of_eq (keysDue_other m hc)) $$ Hdue
    iapply (wait_copy m K c .kr (arrs c) (arrs_high c) rfl credit_rk (by rw [payers_kr c hc]; rfl)) $$ [Hcr HO Hat]
    · isplitr; · iexact Hrec
      isplitr; · iexact Hlev
      isplitl [Hcr]; · iexact Hcr
      isplitl [HO]; · iexact HO
      iexact Hat
    iintro ⟨HO, Hat, Hpay⟩
    ihave HR := (pay_kr m hc) $$ Hpay
    ihave HR := (Entails.of_eq (rkPts_whole (F := F) c _)) $$ HR
    iapply (ldB c rkM) $$ HR; iintro HR
    iapply WP_pure
    ihave HR := (Entails.of_eq (rkPts_whole (F := F) c _).symm) $$ HR
    ihave Hre := (rested_one (F := F) c .kr) $$ Hat
    iapply Hk $$ HR Hre HO

/-- The other heads of the first batch. -/
theorem part10_spec (v25 : FVec F S256x256 .f32) (v79 : IVec S256x256 1) (v84 : FVec F S256x4x64 .bf16) (v116 : FVec F S256x256 .f32)
    {Q : (Σ' (v122 : FVec F S256x256 .bf16) (v141 : FVec F S256x256 .bf16) (v160 : FVec F S256x256 .bf16), Vec F S1x256x4x64 .bf16) → sProp 𝕄} :
    iprop(rkPts c (kdata m c) ∗ (rkPts c (kdata m c)
            -∗ Q ⟨k0_pay33 v116, k0_pay34 v25 v79 v84, k0_pay35 v25 v79 v84, ldk 1 inb_S2x256x4x64_S1x256x4x64_1_0_0_0 (kdata m c)⟩))
      ⊢ WP c (k0_part10 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 v25 v79 v84 v116) Q := by
  rw [k0_part10_eq_skeleton]; unfold k0_part10_skel ldk
  iintro ⟨HR, Hk⟩
  ihave HR := (Entails.of_eq (rkPts_whole (F := F) c _)) $$ HR
  iapply (ldB c rkM) $$ HR; iintro HR
  iapply WP_pure
  ihave HR := (Entails.of_eq (rkPts_whole (F := F) c _).symm) $$ HR
  iapply Hk $$ HR

/-- The second batch's first heads. -/
theorem part11_spec (v28 : FVec F S256x256 .f32) (v79 : IVec S256x256 1) (v161 : Vec F S1x256x4x64 .bf16)
    {Q : (Σ' (v162 : FVec F S256x4x64 .bf16) (v181 : FVec F S256x256 .bf16) (v200 : FVec F S256x256 .bf16) (v207 : FVec F S256x256 .f32), FVec F S256x256 .f32) → sProp 𝕄} :
    Q ⟨k0_pay36 v161, k0_pay37 v28 v79 v161, k0_pay38 v28 v79 v161, k0_pay39 v28 v161, k0_pay40⟩ ⊢ WP c (k0_part11 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 v28 v79 v161) Q := by
  rw [k0_part11_eq_skeleton]; unfold k0_part11_skel
  exact WP_pure

omit [FloatOps F] [Named F] in
/-- A load of values reads as a load of keys does. -/
theorem ldv_eq (b : ℕ) (inb : ∀ a, (![b, 0, 0, 0] : Fin 4 → ℕ) a + S1x256x4x64.size a ≤ S2x256x4x64.size a) (X : Vec F S2x256x4x64 .bf16) :
    rvM.view.readAt (Elt F) (Rect.unit (s := S2x256x4x64) ![b, 0, 0, 0] S1x256x4x64.size inb).toLoadRect X = ldk b inb X := rfl

/-- The wait for the values. -/
theorem part12_spec (v22 : FVec F S256x512 .bf16) (v28 : FVec F S256x256 .f32) (v79 : IVec S256x256 1) (v103 : FVec F S256x256 .bf16) (v162 : FVec F S256x4x64 .bf16) (v207 v208 : FVec F S256x256 .f32)
    {Q : (Σ' (v219 : FVec F S256x256 .bf16) (v238 : FVec F S256x256 .bf16) (v243 : FVec F S256x4x64 .bf16), FVec F S256x512 .f32) → sProp 𝕄} :
    iprop(records m K ∗ levAts L lv ∗ valsDue m c ∗ atPos ER (kcell (c, .vr)) 0 ∅ 0 ∗ owesL c (arrs c)
        ∗ (rvPts c (vdata m c) -∗ rested c .vr -∗ owesL c (arrs c)
            -∗ Q ⟨k0_pay41 v79 v207 v208, k0_pay42 v28 v79 v162, k0_pay43 (ldk 0 inb_S2x256x4x64_S1x256x4x64_0_0_0_0 (vdata m c)),
              k0_pay44 v22 v103 (ldk 0 inb_S2x256x4x64_S1x256x4x64_0_0_0_0 (vdata m c))⟩))
      ⊢ WP c (k0_part12 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 (numW c) v22 v28 v79 v103 v162 v207 v208) Q := by
  rw [k0_part12_eq_skeleton]; unfold k0_part12_skel
  iintro ⟨#Hrec, #Hlev, Hdue, Hat, HO, Hk⟩
  by_cases hc : c = 0
  · subst hc
    iapply (WP_no (fun h => (other_iff 0).mp h rfl))
    ihave HR := (Entails.of_eq (valsDue_zero m)) $$ Hdue
    ihave HR := (Entails.of_eq (rvPts_whole (F := F) 0 _)) $$ HR
    iapply (ldB 0 rvM) $$ HR; iintro HR
    rw [ldv_eq]
    iapply WP_pure
    ihave HR := (Entails.of_eq (rvPts_whole (F := F) 0 _).symm) $$ HR
    ihave Hre := (rested_none (F := F) 0 .vr payers_vr0) $$ Hat
    iapply Hk $$ HR Hre HO
  · iapply (WP_yes ((other_iff c).mpr hc))
    ihave Hcr := (Entails.of_eq (valsDue_other m hc)) $$ Hdue
    iapply (wait_copy m K c .vr (arrs c) (arrs_high c) rfl credit_rv (by rw [payers_vr c hc]; rfl)) $$ [Hcr HO Hat]
    · isplitr; · iexact Hrec
      isplitr; · iexact Hlev
      isplitl [Hcr]; · iexact Hcr
      isplitl [HO]; · iexact HO
      iexact Hat
    iintro ⟨HO, Hat, Hpay⟩
    ihave HR := (pay_vr m hc) $$ Hpay
    ihave HR := (Entails.of_eq (rvPts_whole (F := F) c _)) $$ HR
    iapply (ldB c rvM) $$ HR; iintro HR
    rw [ldv_eq]
    iapply WP_pure
    ihave HR := (Entails.of_eq (rvPts_whole (F := F) c _).symm) $$ HR
    ihave Hre := (rested_one (F := F) c .vr) $$ Hat
    iapply Hk $$ HR Hre HO

/-- The stored part, split into the share the device keeps and the three it lends. -/
theorem lend_out {g : Vec F S4x2x256x512 .bf16} (hg : ∀ i ∈ cbSet 3, g i = allP m c i) :
    cbPts c 3 fullShare g ⊢ iprop(cbPts c 3 fullShare.left (allP m c) ∗ cbPts c 3 (lend 0) (allP m c) ∗ cbPts c 3 (lend 1) (allP m c) ∗ cbPts c 3 (lend 2) (allP m c)) := by
  unfold cbPts
  rw [pointsTo_congr hg]
  iintro H
  ihave H := (pointsTo_share (PosShare.mem_left_op_right fullShare)).1 $$ H
  icases H with ⟨HL, HR⟩
  ihave HR := (pointsTo_share (PosShare.mem_left_op_right fullShare.right)).1 $$ HR
  icases HR with ⟨H0, HR⟩
  ihave HR := (pointsTo_share (PosShare.mem_left_op_right fullShare.right.right)).1 $$ HR
  icases HR with ⟨H1, H2⟩
  isplitl [HL]; · iexact HL
  isplitl [H0]; · iexact H0
  isplitl [H1]; · iexact H1
  iexact H2

/-- The shares come back together. -/
theorem lend_back : iprop(cbPts c 3 fullShare.left (allP m c) ∗ cbPts c 3 (lend 0) (allP m c) ∗ cbPts c 3 (lend 1) (allP m c) ∗ cbPts c 3 (lend 2) (allP m c))
    ⊢ cbPts c 3 fullShare (allP m c) := by
  unfold cbPts
  iintro ⟨HL, H0, H1, H2⟩
  iapply (pointsTo_share (PosShare.mem_left_op_right fullShare)).2
  isplitl [HL]; · iexact HL
  iapply (pointsTo_share (PosShare.mem_left_op_right fullShare.right)).2
  isplitl [H0]; · iexact H0
  iapply (pointsTo_share (PosShare.mem_left_op_right fullShare.right.right)).2
  isplitl [H1]; · iexact H1
  iexact H2

/-- The first batch of the device's part is stored in slot 3. -/
theorem part13_spec (v22 : FVec F S256x512 .bf16) (v122 v141 v160 v181 v200 : FVec F S256x256 .bf16) (v243 : FVec F S256x4x64 .bf16) (v251 : FVec F S256x512 .f32)
    (h : k0_pay45 v22 v122 v141 v160 v243 v251 = p0 m c) (f : Vec F S4x2x256x512 .bf16)
    {Q : (Σ' (v278 : FVec F S256x4x64 .bf16) (v286 : FVec F S256x512 .f32) (v290 : FVec F S256x64 .bf16) (v291 : FVec F S64x512 .bf16), FVec F S256x512 .f32) → sProp 𝕄} :
    iprop(rvPts c (vdata m c) ∗ cbPts c 3 fullShare f
        ∗ (∀ g : Vec F S4x2x256x512 .bf16, ⌜∀ i ∈ cbSet 3, (i 1).val = 0 → g i = allP m c i⌝ -∗ rvPts c (vdata m c) -∗ cbPts c 3 fullShare g
            -∗ Q ⟨k0_pay46 (ldk 1 inb_S2x256x4x64_S1x256x4x64_1_0_0_0 (vdata m c)), k0_pay47 v22 v181 (ldk 1 inb_S2x256x4x64_S1x256x4x64_1_0_0_0 (vdata m c)),
              k0_pay48 v200 (ldk 1 inb_S2x256x4x64_S1x256x4x64_1_0_0_0 (vdata m c)), k0_pay49 v22, constant S256x512 .f32 0x00000000#32⟩))
      ⊢ WP c (k0_part13 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 v22 v122 v141 v160 v181 v200 v243 v251) Q := by
  rw [k0_part13_eq_skeleton]; unfold k0_part13_skel
  iintro ⟨HR, HB, Hk⟩
  iapply (ld_slot c 3 (b := 0) rfl) $$ HB; iintro HB
  iapply (st_slot c 3 (b := 0) rfl) $$ HB; iintro HB
  ihave HR := (Entails.of_eq (rvPts_whole (F := F) c _)) $$ HR
  iapply (ldB c rvM) $$ HR; iintro HR
  rw [ldv_eq]
  iapply WP_pure
  ihave HR := (Entails.of_eq (rvPts_whole (F := F) c _).symm) $$ HR
  iapply Hk $$ %_ %(fun i hi h1 => by
    refine (cb_store 3 0 rfl _ _ _ i).trans ?_
    rw [if_pos ⟨congrArg Fin.val ((mem_cbSet 3 i).mp hi), h1⟩, h]; exact (if_pos h1).symm) HR HB

/-- The second batch is stored, and the part goes to the next device. -/
theorem part14_spec (v22 : FVec F S256x512 .bf16) (v219 v238 : FVec F S256x256 .bf16) (v278 : FVec F S256x4x64 .bf16) (v286 : FVec F S256x512 .f32) (v290 : FVec F S256x64 .bf16)
    (v291 : FVec F S64x512 .bf16) (cst : FVec F S256x512 .f32)
    (h : k0_pay50 v22 v219 v238 v278 v286 v290 v291 cst = p1 m c) (g : Vec F S4x2x256x512 .bf16) (hg : ∀ i ∈ cbSet 3, (i 1).val = 0 → g i = allP m c i)
    (l : List (Dev nD × Cl)) {Q : BitVec 32 → sProp 𝕄} :
    iprop(records m K ∗ cbPts c 3 fullShare g ∗ (∃ f, cbPts (c + 1) 0 fullShare f) ∗ dutyTok ER (kcell (c, .dep 0)) 0 c ∗ dutyTok ER (kcell (c + 1, .arr 0)) 0 c
        ∗ owesL c ((c + 1, .arr 0) :: l)
        ∗ (∀ v, cbPts c 3 fullShare.left (allP m c) -∗ cbPts c 3 (lend 1) (allP m c) -∗ cbPts c 3 (lend 2) (allP m c)
            -∗ cred (tallyAt (kcell (c, .dep 0)) () NA) -∗ owesL c l -∗ Q v))
      ⊢ WP c (k0_part14 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 c (numW c) v22 v219 v238 v278 v286 v290 v291 cst) Q := by
  rw [k0_part14_eq_skeleton]; unfold k0_part14_skel
  iintro ⟨#Hrec, HB, Hp, Htd, Hta, HO, Hk⟩
  iapply (ld_slot c 3 (b := 1) rfl) $$ HB; iintro HB
  iapply (st_slot c 3 (b := 1) rfl) $$ HB; iintro HB
  ihave HB := (lend_out m c (fun i hi => by
    refine (cb_store 3 1 rfl _ _ _ i).trans ?_
    have h1 : (i 1).val < 2 := (i 1).isLt
    split
    · rename_i hh; rw [h]; exact (if_neg (by omega)).symm
    · rename_i hh
      exact hg i hi (by have := congrArg Fin.val ((mem_cbSet 3 i).mp hi); have h3 : (i 0).val = 3 := this; omega))) $$ HB
  icases HB with ⟨HL, H0, H1, H2⟩
  iapply (send_part m K c 0 _ (c + 1) (Fin.ext (k0_dev11_eq c)) rfl l) $$ [H0 Hp Htd Hta HO]
  · isplitr; · iexact Hrec
    isplitl [H0]; · iexact H0
    isplitl [Hp]; · iexact Hp
    isplitl [Htd]; · iexact Htd
    isplitl [Hta]; · iexact Hta
    iexact HO
  iintro ⟨Hc, HO⟩
  iapply WP_pure
  iapply Hk $$ %_ HL H1 H2 Hc HO

/-- The part goes to the other two devices. -/
theorem part15_spec (v : BitVec 32) (l : List (Dev nD × Cl)) {Q : BitVec 32 → sProp 𝕄} :
    iprop(records m K ∗ cbPts c 3 (lend 1) (allP m c) ∗ cbPts c 3 (lend 2) (allP m c) ∗ (∃ f, cbPts (c + 2) 1 fullShare f) ∗ (∃ f, cbPts (c + 3) 2 fullShare f)
        ∗ dutyTok ER (kcell (c, .dep 1)) 0 c ∗ dutyTok ER (kcell (c + 2, .arr 1)) 0 c ∗ dutyTok ER (kcell (c, .dep 2)) 0 c ∗ dutyTok ER (kcell (c + 3, .arr 2)) 0 c
        ∗ owesL c ((c + 2, .arr 1) :: (c + 3, .arr 2) :: l)
        ∗ (∀ v, cred (tallyAt (kcell (c, .dep 1)) () NA) -∗ cred (tallyAt (kcell (c, .dep 2)) () NA) -∗ owesL c l -∗ Q v))
      ⊢ WP c (k0_part15 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 c (numW c) v) Q := by
  rw [k0_part15_eq_skeleton]; unfold k0_part15_skel
  iintro ⟨#Hrec, H1, H2, Hp1, Hp2, Htd1, Hta1, Htd2, Hta2, HO, Hk⟩
  iapply (send_part m K c 1 _ (c + 2) (Fin.ext (k0_dev12_eq c)) rfl ((c + 3, .arr 2) :: l)) $$ [H1 Hp1 Htd1 Hta1 HO]
  · isplitr; · iexact Hrec
    isplitl [H1]; · iexact H1
    isplitl [Hp1]; · iexact Hp1
    isplitl [Htd1]; · iexact Htd1
    isplitl [Hta1]; · iexact Hta1
    iexact HO
  iintro ⟨Hc1, HO⟩
  iapply (send_part m K c 2 _ (c + 3) (Fin.ext (k0_dev13_eq c)) rfl l) $$ [H2 Hp2 Htd2 Hta2 HO]
  · isplitr; · iexact Hrec
    isplitl [H2]; · iexact H2
    isplitl [Hp2]; · iexact Hp2
    isplitl [Htd2]; · iexact Htd2
    isplitl [Hta2]; · iexact Hta2
    iexact HO
  iintro ⟨Hc2, HO⟩
  iapply WP_pure
  iapply Hk $$ %_ Hc1 Hc2 HO

end Compute

end Cert.Attn

end
-- ==== Proof.Finish.lean ====
/-
# The end of the kernel

The waits for the other devices' parts, their sum, and the waits for the device's own sends.
-/
module

public import proofs.«01_k».proof.Proof.Compute

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

section Finish
variable (m : (ℓ : Loc nD τ sig) → Buf (Elt F) ℓ) (K : Dev nD × Cl → ℕ) (c : Dev nD)

/-- The wait for the part of the device `o + 1` places back. -/
theorem wait_arr (o : Fin 3) (s : Fin 4) (hs : s = o.castSucc) (d : Dev nD) (hd : d = c - (o.castSucc + 1)) {α : Type} {Q : α → sProp 𝕄} {k : PUnit → Prog (TpuEff nD τ sig (Elt F) Λ₀ .tc) α}
    {hsrc : (cbSlot 3).view.WordExact} {hdst : (cbSlot o.castSucc).view.WordExact} :
    iprop(records m K ∗ levAts L lv ∗ cred (tallyAt (kcell (c, .arr o)) () NA) ∗ owesL c [] ∗ atPos ER (kcell (c, .arr o)) 0 ∅ 0)
      ⊢ iprop(((owesL c [] ∗ rested c (.arr o) ∗ cbPts c s fullShare (allP m d)) -∗ WP c (k ⟨⟩) Q)
          -∗ WP c (Prog.lift (.waitDma2 (sem3 cc0_scratch10 o) (cbSlot 3) (cbSlot o.castSucc) hsrc hdst) >>= k) Q) := by
  subst hs
  iintro Hpre Hk
  iapply (wait_copy m K c (.arr o) [] (fun _ h => absurd h List.not_mem_nil) rfl (credit_cb o.castSucc) (by rw [payers_arr c o, Finset.card_singleton]; exact (Nat.one_mul NA).symm)) $$ Hpre
  iintro ⟨HO, Hat, Hpay⟩
  iapply Hk
  isplitl [HO]; · iexact HO
  isplitl [Hat]; · iapply rested_one; iexact Hat
  ihave Hp := (Entails.of_eq (show bigSep (payers c (.arr o)) (fun d => pay m c (.arr o) d) = cbPts c o.castSucc fullShare (allP m d) by
    rw [payers_arr c o, bigSep_singleton, hd]; rfl)) $$ Hpay
  iexact Hp

/-- The wait for one of its own sends: the lent share comes back. -/
theorem wait_dep (o : Fin 3) {α : Type} {Q : α → sProp 𝕄} {k : PUnit → Prog (TpuEff nD τ sig (Elt F) Λ₀ .tc) α}
    {hsrc : (cbSlot o.castSucc).view.WordExact} {hdst : (cbSlot 3).view.WordExact} :
    iprop(records m K ∗ levAts L lv ∗ cred (tallyAt (kcell (c, .dep o)) () NA) ∗ owesL c [] ∗ atPos ER (kcell (c, .dep o)) 0 ∅ 0)
      ⊢ iprop(((owesL c [] ∗ rested c (.dep o) ∗ cbPts c 3 (lend o) (allP m c)) -∗ WP c (k ⟨⟩) Q)
          -∗ WP c (Prog.lift (.waitDma2 (sem3 cc0_scratch9 o) (cbSlot o.castSucc) (cbSlot 3) hsrc hdst) >>= k) Q) := by
  iintro Hpre Hk
  iapply (wait_copy m K c (.dep o) [] (fun _ h => absurd h List.not_mem_nil) rfl (credit_cb 3) (by rw [payers_dep c o, Finset.card_singleton]; exact (Nat.one_mul NA).symm)) $$ Hpre
  iintro ⟨HO, Hat, Hpay⟩
  iapply Hk
  isplitl [HO]; · iexact HO
  isplitl [Hat]; · iapply rested_one; iexact Hat
  ihave Hp := (Entails.of_eq (show bigSep (payers c (.dep o)) (fun d => pay m c (.dep o) d) = cbPts c 3 (lend o) (allP m c) by
    rw [payers_dep c o, bigSep_singleton]; rfl)) $$ Hpay
  iexact Hp

/-- Device 0's waits for its sends of keys and of values. -/
theorem wait_ks (j : Fin 3) {α : Type} {Q : α → sProp 𝕄} {k : PUnit → Prog (TpuEff nD τ sig (Elt F) Λ₀ .tc) α}
    {hsrc : rkM.view.WordExact} {hdst : (skSlot j).view.WordExact} :
    iprop(records m K ∗ levAts L lv ∗ cred (tallyAt (kcell (0, .ks j)) () NK) ∗ owesL 0 [] ∗ atPos ER (kcell (0, .ks j)) 0 ∅ 0)
      ⊢ iprop(((owesL 0 [] ∗ rested 0 (.ks j) ∗ skPts 0 j (sendOf (ks m 0))) -∗ WP 0 (k ⟨⟩) Q)
          -∗ WP 0 (Prog.lift (.waitDma2 (sem3 cc0_scratch5 j) rkM (skSlot j) hsrc hdst) >>= k) Q) := by
  iintro Hpre Hk
  iapply (wait_copy m K 0 (.ks j) [] (fun _ h => absurd h List.not_mem_nil) rfl (credit_sk j) (by rw [payers_ks j]; rfl)) $$ Hpre
  iintro ⟨HO, Hat, Hpay⟩
  iapply Hk
  isplitl [HO]; · iexact HO
  isplitl [Hat]; · iapply rested_one; iexact Hat
  ihave Hp := (Entails.of_eq (show bigSep (payers 0 (.ks j)) (fun d => pay m 0 (.ks j) d) = skPts 0 j (sendOf (ks m 0)) by
    rw [payers_ks j, bigSep_singleton]; rfl)) $$ Hpay
  iexact Hp

/-- The wait for the departure of the values for device `j + 1`. -/
theorem wait_vs (j : Fin 3) {α : Type} {Q : α → sProp 𝕄} {k : PUnit → Prog (TpuEff nD τ sig (Elt F) Λ₀ .tc) α}
    {hsrc : rvM.view.WordExact} {hdst : (svSlot j).view.WordExact} :
    iprop(records m K ∗ levAts L lv ∗ cred (tallyAt (kcell (0, .vs j)) () NK) ∗ owesL 0 [] ∗ atPos ER (kcell (0, .vs j)) 0 ∅ 0)
      ⊢ iprop(((owesL 0 [] ∗ rested 0 (.vs j) ∗ svPts 0 j (sendOf (vs m 0))) -∗ WP 0 (k ⟨⟩) Q)
          -∗ WP 0 (Prog.lift (.waitDma2 (sem3 cc0_scratch6 j) rvM (svSlot j) hsrc hdst) >>= k) Q) := by
  iintro Hpre Hk
  iapply (wait_copy m K 0 (.vs j) [] (fun _ h => absurd h List.not_mem_nil) rfl (credit_sv j) (by rw [payers_vs j]; rfl)) $$ Hpre
  iintro ⟨HO, Hat, Hpay⟩
  iapply Hk
  isplitl [HO]; · iexact HO
  isplitl [Hat]; · iapply rested_one; iexact Hat
  ihave Hp := (Entails.of_eq (show bigSep (payers 0 (.vs j)) (fun d => pay m 0 (.vs j) d) = svPts 0 j (sendOf (vs m 0)) by
    rw [payers_vs j, bigSep_singleton]; rfl)) $$ Hpay
  iexact Hp

/-- The other devices' parts, read from the slots they arrived in. -/
theorem read_part0 (o : ℕ) (inb : ∀ a, (![o, 0, 0, 0] : Fin 4 → ℕ) a + S1x1x256x512.size a ≤ S4x2x256x512.size a) (d : Dev nD) :
    cbM.view.readAt (Elt F) (Rect.unit (s := S4x2x256x512) ![o, 0, 0, 0] S1x1x256x512.size inb).toLoadRect (allP m d) = p0 m d := ldcb_allP0 m o inb d
/-- A load of batch 1 of a landed part. -/
theorem read_part1 (o : ℕ) (inb : ∀ a, (![o, 1, 0, 0] : Fin 4 → ℕ) a + S1x1x256x512.size a ≤ S4x2x256x512.size a) (d : Dev nD) :
    cbM.view.readAt (Elt F) (Rect.unit (s := S4x2x256x512) ![o, 1, 0, 0] S1x1x256x512.size inb).toLoadRect (allP m d) = p1 m d := ldcb_allP1 m o inb d

/-- The first two arrivals. -/
theorem part16_spec (v2 v350 : BitVec 32) {Q : PUnit → sProp 𝕄} :
    iprop(records m K ∗ levAts L lv ∗ cred (tallyAt (kcell (c, .arr 0)) () NA) ∗ cred (tallyAt (kcell (c, .arr 1)) () NA)
        ∗ atPos ER (kcell (c, .arr 0)) 0 ∅ 0 ∗ atPos ER (kcell (c, .arr 1)) 0 ∅ 0 ∗ owesL c []
        ∗ (cbPts c 0 fullShare (allP m (c - 1)) -∗ cbPts c 1 fullShare (allP m (c - 2)) -∗ rested c (.arr 0) -∗ rested c (.arr 1) -∗ owesL c [] -∗ Q ⟨⟩))
      ⊢ WP c (k0_part16 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 v2 v350) Q := by
  rw [k0_part16_eq_skeleton]; unfold k0_part16_skel
  iintro ⟨#Hrec, #Hlev, Hc0, Hc1, Ha0, Ha1, HO, Hk⟩
  iapply (wait_arr m K c 0 0 rfl (c - 1) rfl) $$ [Hc0 HO Ha0]
  · isplitr; · iexact Hrec
    isplitr; · iexact Hlev
    isplitl [Hc0]; · iexact Hc0
    isplitl [HO]; · iexact HO
    iexact Ha0
  iintro ⟨HO, Hr0, H0⟩
  iapply (wait_arr m K c 1 1 rfl (c - 2) rfl) $$ [Hc1 HO Ha1]
  · isplitr; · iexact Hrec
    isplitr; · iexact Hlev
    isplitl [Hc1]; · iexact Hc1
    isplitl [HO]; · iexact HO
    iexact Ha1
  iintro ⟨HO, Hr1, H1⟩
  iapply WP_pure
  iapply Hk $$ H0 H1 Hr0 Hr1 HO

/-- The last arrival, and the first batch of the sum. -/
theorem part17_spec (f : Vec F S2x256x512 .f32) {Q : FVec F S256x512 .f32 → sProp 𝕄} :
    iprop(records m K ∗ levAts L lv ∗ cred (tallyAt (kcell (c, .arr 2)) () NA) ∗ atPos ER (kcell (c, .arr 2)) 0 ∅ 0 ∗ owesL c []
        ∗ cbPts c 0 fullShare (allP m (c - 1)) ∗ cbPts c 1 fullShare (allP m (c - 2)) ∗ cbPts c 3 fullShare.left (allP m c) ∗ (oM.view.loc (c : Thread nD τ) ↦{fullShare} f)
        ∗ (∀ g : Vec F S2x256x512 .f32, ⌜∀ i, (i 0).val = 0 → g i = outP m c i⌝ -∗ cbPts c 0 fullShare (allP m (c - 1)) -∗ cbPts c 1 fullShare (allP m (c - 2))
            -∗ cbPts c 2 fullShare (allP m (c - 3)) -∗ cbPts c 3 fullShare.left (allP m c) -∗ (oM.view.loc (c : Thread nD τ) ↦{fullShare} g)
            -∗ rested c (.arr 2) -∗ owesL c [] -∗ Q (k0_pay52 (p1 m (c - 1)) (p1 m (c - 2)))))
      ⊢ WP c (k0_part17 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10) Q := by
  rw [k0_part17_eq_skeleton]; unfold k0_part17_skel
  iintro ⟨#Hrec, #Hlev, Hc, Ha, HO, H0, H1, H3, HW, Hk⟩
  iapply (wait_arr m K c 2 2 rfl (c - 3) rfl) $$ [Hc HO Ha]
  · isplitr; · iexact Hrec
    isplitr; · iexact Hlev
    isplitl [Hc]; · iexact Hc
    isplitl [HO]; · iexact HO
    iexact Ha
  iintro ⟨HO, Hr, H2⟩
  iapply (ld_slot c 0 (b := 0) (off := ![0, 0, 0, 0]) rfl) $$ H0; iintro H0
  iapply (ld_slot c 1 (b := 0) (off := ![1, 0, 0, 0]) rfl) $$ H1; iintro H1
  iapply (ld_slot c 2 (b := 0) (off := ![2, 0, 0, 0]) rfl) $$ H2; iintro H2
  iapply (ld_slot c 3 (b := 0) (off := ![3, 0, 0, 0]) rfl) $$ H3; iintro H3
  iapply (ldB c oM) $$ HW; iintro HW
  iapply (stB c oM) $$ HW; iintro HW
  iapply (ld_slot c 0 (b := 1) (off := ![0, 1, 0, 0]) rfl) $$ H0; iintro H0
  iapply (ld_slot c 1 (b := 1) (off := ![1, 1, 0, 0]) rfl) $$ H1; iintro H1
  rw [read_part1 m 0, read_part1 m 1]
  iapply WP_pure
  iapply Hk $$ %_ %(fun i hi => by
    refine (out_store 0 rfl _ _ _ i).trans ?_
    rw [if_pos hi]
    refine Eq.trans ?_ (if_neg (by omega)).symm
    exact congrFun (congr (congr (congr (congrArg k0_pay51 (read_part0 m _ _ _)) (read_part0 m _ _ _)) (read_part0 m _ _ _)) (read_part0 m _ _ _)) _) H0 H1 H2 H3 HW Hr HO

/-- With both batches stored, the buffer holds the result. -/
theorem out_done (g : Vec F S2x256x512 .f32) (hg : ∀ i, (i 0).val = 0 → g i = outP m c i) (inb : ∀ a, (![1, 0, 0] : Fin 3 → ℕ) a + S1x256x512.size a ≤ S2x256x512.size a)
    (a b : Vec F S1x1x256x512 .bf16) (ha : a = p1 m (c - 3)) (hb : b = p1 m c) :
    (oM.access (Rect.unit (s := S2x256x512) ![1, 0, 0] S1x256x512.size inb)).write (Elt F) g (k0_pay53 (k0_pay52 (p1 m (c - 1)) (p1 m (c - 2))) a b) Finset.univ = outP m c := by
  funext i
  refine (out_store 1 rfl _ _ _ i).trans ?_
  have h2 : (i 0).val < 2 := (i 0).isLt
  by_cases hi : (i 0).val = 1
  · rw [if_pos hi, ha, hb]
    exact (if_pos hi).symm
  · rw [if_neg hi]
    exact hg i (by omega)

/-- The second batch of the sum, and the wait for the first send. -/
theorem part18_spec (v2 : BitVec 32) (g : Vec F S2x256x512 .f32) (hg : ∀ i, (i 0).val = 0 → g i = outP m c i) {Q : PUnit → sProp 𝕄} :
    iprop(records m K ∗ levAts L lv ∗ cred (tallyAt (kcell (c, .dep 0)) () NA) ∗ atPos ER (kcell (c, .dep 0)) 0 ∅ 0 ∗ owesL c []
        ∗ cbPts c 2 fullShare (allP m (c - 3)) ∗ cbPts c 3 fullShare.left (allP m c) ∗ (oM.view.loc (c : Thread nD τ) ↦{fullShare} g)
        ∗ (cbPts c 2 fullShare (allP m (c - 3)) -∗ cbPts c 3 fullShare.left (allP m c) -∗ cbPts c 3 (lend 0) (allP m c) -∗ (oM.view.loc (c : Thread nD τ) ↦{fullShare} outP m c)
            -∗ rested c (.dep 0) -∗ owesL c [] -∗ Q ⟨⟩))
      ⊢ WP c (k0_part18 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10 v2 (k0_pay52 (p1 m (c - 1)) (p1 m (c - 2)))) Q := by
  rw [k0_part18_eq_skeleton]; unfold k0_part18_skel
  iintro ⟨#Hrec, #Hlev, Hc, Ha, HO, H2, H3, HW, Hk⟩
  iapply (ld_slot c 2 (b := 1) (off := ![2, 1, 0, 0]) rfl) $$ H2; iintro H2
  iapply (ld_slot c 3 (b := 1) (off := ![3, 1, 0, 0]) rfl) $$ H3; iintro H3
  iapply (ldB c oM) $$ HW; iintro HW
  iapply (stB c oM) $$ HW; iintro HW
  iapply (wait_dep m K c 0) $$ [Hc HO Ha]
  · isplitr; · iexact Hrec
    isplitr; · iexact Hlev
    isplitl [Hc]; · iexact Hc
    isplitl [HO]; · iexact HO
    iexact Ha
  iintro ⟨HO, Hr, HL⟩
  iapply WP_pure
  ihave HW := (Entails.of_eq (congrArg (fun g : Vec F S2x256x512 .f32 => (oM.view.loc (c : Thread nD τ) ↦{fullShare} g : sProp 𝕄))
    (out_done m c g hg inb_S2x256x512_S1x256x512_1_0_0 _ _ (read_part1 m 2 inb_S4x2x256x512_S1x1x256x512_2_1_0_0 (c - 3)) (read_part1 m 3 inb_S4x2x256x512_S1x1x256x512_3_1_0_0 c)))) $$ HW
  iapply Hk $$ H2 H3 HL HW Hr HO

/-- Device 0's waits for the first four of its sends. -/
theorem part6_spec {Q : PUnit → sProp 𝕄} :
    iprop(records m K ∗ levAts L lv ∗ cred (tallyAt (kcell (0, .ks 0)) () NK) ∗ cred (tallyAt (kcell (0, .vs 0)) () NK) ∗ cred (tallyAt (kcell (0, .ks 1)) () NK) ∗ cred (tallyAt (kcell (0, .vs 1)) () NK)
        ∗ atPos ER (kcell (0, .ks 0)) 0 ∅ 0 ∗ atPos ER (kcell (0, .vs 0)) 0 ∅ 0 ∗ atPos ER (kcell (0, .ks 1)) 0 ∅ 0 ∗ atPos ER (kcell (0, .vs 1)) 0 ∅ 0 ∗ owesL 0 []
        ∗ (skPts 0 0 (sendOf (ks m 0)) -∗ svPts 0 0 (sendOf (vs m 0)) -∗ skPts 0 1 (sendOf (ks m 0)) -∗ svPts 0 1 (sendOf (vs m 0))
            -∗ rested 0 (.ks 0) -∗ rested 0 (.vs 0) -∗ rested 0 (.ks 1) -∗ rested 0 (.vs 1) -∗ owesL 0 [] -∗ Q ⟨⟩))
      ⊢ WP 0 (k0_part6 xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10) Q := by
  rw [k0_part6_eq_skeleton]; unfold k0_part6_skel
  iintro ⟨#Hrec, #Hlev, Hc0, Hd0, Hc1, Hd1, Ha0, Hb0, Ha1, Hb1, HO, Hk⟩
  iapply (wait_ks m K 0) $$ [Hc0 HO Ha0]
  · isplitr; · iexact Hrec
    isplitr; · iexact Hlev
    isplitl [Hc0]; · iexact Hc0
    isplitl [HO]; · iexact HO
    iexact Ha0
  iintro ⟨HO, Hr0, H0⟩
  iapply (wait_vs m K 0) $$ [Hd0 HO Hb0]
  · isplitr; · iexact Hrec
    isplitr; · iexact Hlev
    isplitl [Hd0]; · iexact Hd0
    isplitl [HO]; · iexact HO
    iexact Hb0
  iintro ⟨HO, Hs0, G0⟩
  iapply (wait_ks m K 1) $$ [Hc1 HO Ha1]
  · isplitr; · iexact Hrec
    isplitr; · iexact Hlev
    isplitl [Hc1]; · iexact Hc1
    isplitl [HO]; · iexact HO
    iexact Ha1
  iintro ⟨HO, Hr1, H1⟩
  iapply (wait_vs m K 1) $$ [Hd1 HO Hb1]
  · isplitr; · iexact Hrec
    isplitr; · iexact Hlev
    isplitl [Hd1]; · iexact Hd1
    isplitl [HO]; · iexact HO
    iexact Hb1
  iintro ⟨HO, Hs1, G1⟩
  iapply WP_pure
  iapply Hk $$ H0 G0 H1 G1 Hr0 Hs0 Hr1 Hs1 HO

end Finish

end Cert.Attn

end
-- ==== Proof.Body.lean ====
/-
# The kernel on one device

The parts in a row: from what a device is given at launch to what it ends with.
-/
module

public import proofs.«01_k».proof.Proof.Finish

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

section Body
variable (m : (ℓ : Loc nD τ sig) → Buf (Elt F) ℓ) (K : Dev nD × Cl → ℕ) (c : Dev nD)

/-! ## Slots put together again -/

omit [FloatOps F] [Named F] in
/-- The three slots of the keys' send buffer make the whole buffer. -/
theorem sk_join (f0 f1 f2 : Vec F S3x2x256x4x64 .bf16) :
    iprop(skPts c 0 f0 ∗ skPts c 1 f1 ∗ skPts c 2 f2) ⊢ (iprop(∃ f, skM.view.loc (c : Thread nD τ) ↦{fullShare} f) : sProp 𝕄) := by
  refine BIBase.Entails.trans ?_ (pointsTo_blocks_join (ℓ := skM.view.loc (c : Thread nD τ)) skSet skSet_disjoint skSet_cover ![f0, f1, f2] f0)
  rw [bigSep_univ_eq_bigSepL [0, 1, 2] (by decide) (by decide)]
  simp only [bigSepL_cons', bigSepL_nil]
  unfold skPts
  iintro ⟨H0, H1, H2⟩
  isplitl [H0]; · iexact H0
  isplitl [H1]; · iexact H1
  isplitl [H2]; · iexact H2
  iempintro

omit [FloatOps F] [Named F] in
/-- The three slots of the values' send buffer make the whole buffer. -/
theorem sv_join (f0 f1 f2 : Vec F S3x2x256x4x64 .bf16) :
    iprop(svPts c 0 f0 ∗ svPts c 1 f1 ∗ svPts c 2 f2) ⊢ (iprop(∃ f, svM.view.loc (c : Thread nD τ) ↦{fullShare} f) : sProp 𝕄) := by
  refine BIBase.Entails.trans ?_ (pointsTo_blocks_join (ℓ := svM.view.loc (c : Thread nD τ)) svSet skSet_disjoint skSet_cover ![f0, f1, f2] f0)
  rw [bigSep_univ_eq_bigSepL [0, 1, 2] (by decide) (by decide)]
  simp only [bigSepL_cons', bigSepL_nil]
  unfold svPts
  iintro ⟨H0, H1, H2⟩
  isplitl [H0]; · iexact H0
  isplitl [H1]; · iexact H1
  isplitl [H2]; · iexact H2
  iempintro

omit [FloatOps F] [Named F] in
/-- The four slots of the exchange buffer make the whole buffer. -/
theorem cb_join (f0 f1 f2 f3 : Vec F S4x2x256x512 .bf16) :
    iprop(cbPts c 0 fullShare f0 ∗ cbPts c 1 fullShare f1 ∗ cbPts c 2 fullShare f2 ∗ cbPts c 3 fullShare f3)
      ⊢ (iprop(∃ f, cbM.view.loc (c : Thread nD τ) ↦{fullShare} f) : sProp 𝕄) := by
  refine BIBase.Entails.trans ?_ (pointsTo_blocks_join (ℓ := cbM.view.loc (c : Thread nD τ)) cbSet cbSet_disjoint cbSet_cover ![f0, f1, f2, f3] f0)
  rw [bigSep_univ_eq_bigSepL [0, 1, 2, 3] (by decide) (by decide)]
  simp only [bigSepL_cons', bigSepL_nil]
  unfold cbPts
  iintro ⟨H0, H1, H2, H3⟩
  isplitl [H0]; · iexact H0
  isplitl [H1]; · iexact H1
  isplitl [H2]; · iexact H2
  isplitl [H3]; · iexact H3
  iempintro

/-! ## What a device starts from and ends with -/

/-- The credits a device gets at launch for its keys and values (device 0 needs none). -/
def keyCreds : sProp 𝕄 := if c = 0 then iprop(emp) else iprop(cred (tallyAt (kcell (c, .kr)) () NK) ∗ cred (tallyAt (kcell (c, .vr)) () NK))
/-- All credits a device gets at launch. -/
def startCreds : sProp 𝕄 :=
  iprop(cred (tallyAt (kcell (c, .bar)) () 3) ∗ keyCreds (F := F) c ∗ cred (tallyAt (kcell (c, .arr 0)) () NA) ∗ cred (tallyAt (kcell (c, .arr 1)) () NA) ∗ cred (tallyAt (kcell (c, .arr 2)) () NA))
/-- The positions of a device's departure cells of keys and values. -/
def sendPos : sProp 𝕄 :=
  iprop(atPos ER (kcell (c, .ks 0)) 0 ∅ 0 ∗ atPos ER (kcell (c, .ks 1)) 0 ∅ 0 ∗ atPos ER (kcell (c, .ks 2)) 0 ∅ 0
    ∗ atPos ER (kcell (c, .vs 0)) 0 ∅ 0 ∗ atPos ER (kcell (c, .vs 1)) 0 ∅ 0 ∗ atPos ER (kcell (c, .vs 2)) 0 ∅ 0)
/-- The positions of its other cells. -/
def restPos : sProp 𝕄 :=
  iprop(atPos ER (kcell (c, .bar)) 0 ∅ 0 ∗ atPos ER (kcell (c, .kr)) 0 ∅ 0 ∗ atPos ER (kcell (c, .vr)) 0 ∅ 0
    ∗ atPos ER (kcell (c, .dep 0)) 0 ∅ 0 ∗ atPos ER (kcell (c, .dep 1)) 0 ∅ 0 ∗ atPos ER (kcell (c, .dep 2)) 0 ∅ 0
    ∗ atPos ER (kcell (c, .arr 0)) 0 ∅ 0 ∗ atPos ER (kcell (c, .arr 1)) 0 ∅ 0 ∗ atPos ER (kcell (c, .arr 2)) 0 ∅ 0)
/-- The payments of the exchange of parts. -/
def partToks : sProp 𝕄 :=
  iprop(dutyTok ER (kcell (c, .dep 0)) 0 c ∗ dutyTok ER (kcell (c + 1, .arr 0)) 0 c ∗ dutyTok ER (kcell (c, .dep 1)) 0 c
    ∗ dutyTok ER (kcell (c + 2, .arr 1)) 0 c ∗ dutyTok ER (kcell (c, .dep 2)) 0 c ∗ dutyTok ER (kcell (c + 3, .arr 2)) 0 c)
/-- What a device starts from. -/
def bodyStart : sProp 𝕄 :=
  iprop(records m K ∗ levAts L lv ∗ toSignal (F := F) c 0 ∗ kept (F := F) c ∗ sendBufs (F := F) c ∗ (∃ f, cbPts (F := F) c 3 fullShare f) ∗ staged m c
    ∗ (∃ f, oM.view.loc (c : Thread nD τ) ↦{fullShare} f) ∗ startCreds (F := F) c ∗ sendPos (F := F) c ∗ restPos (F := F) c ∗ partToks (F := F) c)

/-- The departure cells of keys and values at their end. -/
def sendRest : sProp 𝕄 :=
  iprop(rested (F := F) c (.ks 0) ∗ rested (F := F) c (.ks 1) ∗ rested (F := F) c (.ks 2) ∗ rested (F := F) c (.vs 0) ∗ rested (F := F) c (.vs 1) ∗ rested (F := F) c (.vs 2))
/-- The scratch buffers, whole, at whatever they hold. -/
def scratch : sProp 𝕄 :=
  iprop(sendBufs (F := F) c ∗ (∃ f, rkM.view.loc (c : Thread nD τ) ↦{fullShare} f) ∗ (∃ f, rvM.view.loc (c : Thread nD τ) ↦{fullShare} f)
    ∗ (∃ f, cbM.view.loc (c : Thread nD τ) ↦{fullShare} f))
/-- What a device ends with: the inputs as they were, the result, all scratch buffers, every cell at its end. -/
def bodyEnd : sProp 𝕄 :=
  iprop(staged m c ∗ (oM.view.loc (c : Thread nD τ) ↦{fullShare} outP m c) ∗ scratch (F := F) c ∗ bigSepL allCl (fun x => rested (F := F) c x) ∗ owesL (F := F) c [])

/-- What device 0 still waits for at the end; the other devices have their send buffers at hand. -/
def late : sProp 𝕄 := if c = 0 then bigSepL scatDeps (fun ck => cred (tallyAt (kcell ck) () NK)) else sendBufs (F := F) c
/-- Device 0 waits last for the departures of its six copies. -/
theorem late_zero : late (F := F) 0 = bigSepL scatDeps (fun ck => cred (tallyAt (kcell ck) () NK)) := if_pos rfl
/-- Any other device has its send buffers unused at the end. -/
theorem late_other {c : Dev nD} (h : c ≠ 0) : late (F := F) c = sendBufs c := if_neg h
/-- What a device other than 0 holds to wait for its keys and its values. -/
theorem keyCreds_other {c : Dev nD} (h : c ≠ 0) : keyCreds (F := F) c = iprop(cred (tallyAt (kcell (c, .kr)) () NK) ∗ cred (tallyAt (kcell (c, .vr)) () NK)) := if_neg h

/-- What the first half of the body hands on: the keys, the values, and what is kept for the end. -/
theorem handed_split : iprop(handed m c ∗ keyCreds (F := F) c) ⊢ iprop(keysDue m c ∗ valsDue m c ∗ late (F := F) c) := by
  by_cases h : c = 0
  · subst h
    rw [handed_zero, keysDue_zero, valsDue_zero, late_zero]
    iintro ⟨⟨H1, H2, H3⟩, -⟩
    isplitl [H1]; · iexact H1
    isplitl [H2]; · iexact H2
    iexact H3
  · rw [handed_other m h, keysDue_other m h, valsDue_other m h, late_other h, keyCreds_other h]
    iintro ⟨H, H1, H2⟩
    isplitl [H1]; · iexact H1
    isplitl [H2]; · iexact H2
    iexact H

/-- Whether a device takes part in the last waits. -/
theorem zero_iff : ∀ c : Dev nD, Scalar.cmpi .ne (Scalar.extui (Scalar.cmpi .eq (numW c) 0#32) : BitVec 32) 0#32 = 1#1 ↔ c = 0 := by decide +kernel

/-- A device that sent no keys or values is done with those cells. -/
theorem send_none (h : c ≠ 0) : sendPos (F := F) c ⊢ sendRest (F := F) c := by
  unfold sendPos sendRest
  iintro ⟨H0, H1, H2, H3, H4, H5⟩
  isplitl [H0]; · iapply (rested_none c _ (payers_ks_none c 0 h)); iexact H0
  isplitl [H1]; · iapply (rested_none c _ (payers_ks_none c 1 h)); iexact H1
  isplitl [H2]; · iapply (rested_none c _ (payers_ks_none c 2 h)); iexact H2
  isplitl [H3]; · iapply (rested_none c _ (payers_vs_none c 0 h)); iexact H3
  isplitl [H4]; · iapply (rested_none c _ (payers_vs_none c 1 h)); iexact H4
  iapply (rested_none c _ (payers_vs_none c 2 h)); iexact H5

/-- All that a device has at the end, put together. -/
theorem gather :
    iprop(staged m c ∗ (oM.view.loc (c : Thread nD τ) ↦{fullShare} outP m c) ∗ sendBufs (F := F) c ∗ sendRest (F := F) c ∗ rkPts c (kdata m c) ∗ rvPts c (vdata m c)
        ∗ (cbPts c 0 fullShare (allP m (c - 1)) ∗ cbPts c 1 fullShare (allP m (c - 2)) ∗ cbPts c 2 fullShare (allP m (c - 3)) ∗ cbPts c 3 fullShare (allP m c))
        ∗ (atPos ER (kcell (c, .bar)) 1 ∅ 0 ∗ rested (F := F) c .kr ∗ rested (F := F) c .vr) ∗ (rested (F := F) c (.dep 0) ∗ rested (F := F) c (.dep 1) ∗ rested (F := F) c (.dep 2))
        ∗ (rested (F := F) c (.arr 0) ∗ rested (F := F) c (.arr 1) ∗ rested (F := F) c (.arr 2)) ∗ owesL (F := F) c [])
      ⊢ bodyEnd m c := by
  unfold bodyEnd scratch sendRest
  simp only [bigSepL_cons', bigSepL_nil]
  iintro ⟨Hst, HW, HS, ⟨A0, A1, A2, B0, B1, B2⟩, HRK, HRV, HCB, ⟨HB, Hkr, Hvr⟩, ⟨D0, D1, D2⟩, ⟨E0, E1, E2⟩, HO⟩
  isplitl [Hst]; · iexact Hst
  isplitl [HW]; · iexact HW
  isplitl [HS HRK HRV HCB]
  · isplitl [HS]; · iexact HS
    isplitl [HRK]
    · iexists _
      ihave H := (Entails.of_eq (rkPts_whole (F := F) c _)) $$ HRK
      iexact H
    isplitl [HRV]
    · iexists _
      ihave H := (Entails.of_eq (rvPts_whole (F := F) c _)) $$ HRV
      iexact H
    iapply cb_join; iexact HCB
  isplitr [HO]
  · isplitl [HB]; · iapply rested_one; iexact HB
    isplitl [Hkr]; · iexact Hkr
    isplitl [Hvr]; · iexact Hvr
    isplitl [A0]; · iexact A0
    isplitl [A1]; · iexact A1
    isplitl [A2]; · iexact A2
    isplitl [B0]; · iexact B0
    isplitl [B1]; · iexact B1
    isplitl [B2]; · iexact B2
    isplitl [D0]; · iexact D0
    isplitl [D1]; · iexact D1
    isplitl [D2]; · iexact D2
    isplitl [E0]; · iexact E0
    isplitl [E1]; · iexact E1
    isplitl [E2]; · iexact E2
    iempintro
  iexact HO

/-- The chain of values through the parts is the device's part of the result. -/
theorem p0_pieces (X0 : Vec F S1x256x512 .bf16) (K0 V0 : Vec F S1x256x4x64 .bf16) (hX : X0 = ldx 0 inb_S2x256x512_S1x256x512_0_0_0 (xs m c))
    (hK : K0 = ldk 0 inb_S2x256x4x64_S1x256x4x64_0_0_0_0 (kdata m c)) (hV : V0 = ldk 0 inb_S2x256x4x64_S1x256x4x64_0_0_0_0 (vdata m c)) :
    k0_pay45 (k0_pay20 (wos m c))
      (k0_pay33 (k0_pay32 (k0_pay21 (wqs m c) X0) k0_pay24 k0_pay25 k0_pay26 k0_pay27 k0_pay28 K0))
      (k0_pay34 (k0_pay21 (wqs m c) X0) (k0_pay29 k0_pay24 k0_pay25 k0_pay26 k0_pay27 k0_pay28) (k0_pay30 K0))
      (k0_pay35 (k0_pay21 (wqs m c) X0) (k0_pay29 k0_pay24 k0_pay25 k0_pay26 k0_pay27 k0_pay28) (k0_pay30 K0))
      (k0_pay43 V0)
      (k0_pay44 (k0_pay20 (wos m c)) (k0_pay31 (k0_pay21 (wqs m c) X0) k0_pay24 k0_pay25 k0_pay26 k0_pay27 k0_pay28 K0) V0) = p0 m c := by
  subst hX hK hV; rfl
/-- Batch 1's part, from the loads that the body makes. -/
theorem p1_pieces (X1 : Vec F S1x256x512 .bf16) (K1 V1 : Vec F S1x256x4x64 .bf16) (hX : X1 = ldx 1 inb_S2x256x512_S1x256x512_1_0_0 (xs m c))
    (hK : K1 = ldk 1 inb_S2x256x4x64_S1x256x4x64_1_0_0_0 (kdata m c)) (hV : V1 = ldk 1 inb_S2x256x4x64_S1x256x4x64_1_0_0_0 (vdata m c)) :
    k0_pay50 (k0_pay20 (wos m c))
      (k0_pay41 (k0_pay29 k0_pay24 k0_pay25 k0_pay26 k0_pay27 k0_pay28) (k0_pay39 (k0_pay23 (k0_pay19 (wqs m c)) (k0_pay22 X1)) K1) k0_pay40)
      (k0_pay42 (k0_pay23 (k0_pay19 (wqs m c)) (k0_pay22 X1)) (k0_pay29 k0_pay24 k0_pay25 k0_pay26 k0_pay27 k0_pay28) (k0_pay36 K1))
      (k0_pay46 V1)
      (k0_pay47 (k0_pay20 (wos m c)) (k0_pay37 (k0_pay23 (k0_pay19 (wqs m c)) (k0_pay22 X1)) (k0_pay29 k0_pay24 k0_pay25 k0_pay26 k0_pay27 k0_pay28) K1) V1)
      (k0_pay48 (k0_pay38 (k0_pay23 (k0_pay19 (wqs m c)) (k0_pay22 X1)) (k0_pay29 k0_pay24 k0_pay25 k0_pay26 k0_pay27 k0_pay28) K1) V1)
      (k0_pay49 (k0_pay20 (wos m c))) (constant S256x512 .f32 0x00000000#32) = p1 m c := by
  subst hX hK hV; rfl

set_option maxHeartbeats 1600000 in
/-- The kernel on one device, from its start to its end. -/
theorem body_run {Q : PUnit → sProp 𝕄} :
    iprop(bodyStart m K c ∗ (bodyEnd m c -∗ Q ⟨⟩)) ⊢ WP c (cc0_body xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10) Q := by
  rw [cc0_body_eq_skeleton]; unfold cc0_body_skel
  unfold bodyStart startCreds restPos partToks
  iintro ⟨⟨#Hrec, #Hlev, HS, Hkept, Hsend, ⟨%f3, HC⟩, Hst, ⟨%fo, HW⟩, ⟨Hcb, Hkc, Hca0, Hca1, Hca2⟩, HsP,
    ⟨Hab, Hakr, Havr, Hd0, Hd1, Hd2, Ha0, Ha1, Ha2⟩, T0, U0, T1, U1, T2, U2⟩, Hk⟩
  iapply WP_bind
  iapply (part7_spec m K c)
  isplitr; · iexact Hrec
  isplitr; · iexact Hlev
  isplitl [HS]; · iexact HS
  isplitl [Hcb]; · iexact Hcb
  isplitl [Hab]; · iexact Hab
  isplitl [Hkept]; · iexact Hkept
  isplitl [Hsend]; · iexact Hsend
  isplitl [Hst]; · iexact Hst
  iintro Hst Hab Hpl Hh HO
  ihave Hh := (handed_split m c) $$ [Hh Hkc]
  · isplitl [Hh]; · iexact Hh
    iexact Hkc
  icases Hh with ⟨Hkd, Hvd, Hlate⟩
  iapply WP_bind
  iapply (part8_spec c)
  iapply WP_bind
  iapply (part9_spec m K c)
  isplitr; · iexact Hrec
  isplitr; · iexact Hlev
  isplitl [Hkd]; · iexact Hkd
  isplitl [Hakr]; · iexact Hakr
  isplitl [HO]; · iexact HO
  iintro HRK Hkr HO
  iapply WP_bind
  iapply (part10_spec m c)
  isplitl [HRK]; · iexact HRK
  iintro HRK
  iapply WP_bind
  iapply (part11_spec c)
  iapply WP_bind
  iapply (part12_spec m K c)
  isplitr; · iexact Hrec
  isplitr; · iexact Hlev
  isplitl [Hvd]; · iexact Hvd
  isplitl [Havr]; · iexact Havr
  isplitl [HO]; · iexact HO
  iintro HRV Hvr HO
  iapply WP_bind
  iapply (part13_spec m c (h := p0_pieces m c _ _ _ rfl rfl rfl) (f := f3))
  isplitl [HRV]; · iexact HRV
  isplitl [HC]; · iexact HC
  iintro %g %hg HRV HC
  unfold places
  icases Hpl with ⟨HP0, HP1, HP2⟩
  iapply WP_bind
  iapply (part14_spec m K c (h := p1_pieces m c _ _ _ rfl rfl rfl) (g := g) (hg := hg))
  isplitr; · iexact Hrec
  isplitl [HC]; · iexact HC
  isplitl [HP0]; · iexact HP0
  isplitl [T0]; · iexact T0
  isplitl [U0]; · iexact U0
  isplitl [HO]; · iexact HO
  iintro %v325 HC HL1 HL2 Hc0 HO
  iapply WP_bind
  iapply (part15_spec m K c _ [])
  isplitr; · iexact Hrec
  isplitl [HL1]; · iexact HL1
  isplitl [HL2]; · iexact HL2
  isplitl [HP1]; · iexact HP1
  isplitl [HP2]; · iexact HP2
  isplitl [T1]; · iexact T1
  isplitl [U1]; · iexact U1
  isplitl [T2]; · iexact T2
  isplitl [U2]; · iexact U2
  isplitl [HO]; · iexact HO
  iintro %v350 Hc1 Hc2 HO
  iapply WP_bind
  iapply (part16_spec m K c)
  isplitr; · iexact Hrec
  isplitr; · iexact Hlev
  isplitl [Hca0]; · iexact Hca0
  isplitl [Hca1]; · iexact Hca1
  isplitl [Ha0]; · iexact Ha0
  isplitl [Ha1]; · iexact Ha1
  isplitl [HO]; · iexact HO
  iintro H0 H1 Hr0 Hr1 HO
  iapply WP_bind
  iapply (part17_spec m K c fo)
  isplitr; · iexact Hrec
  isplitr; · iexact Hlev
  isplitl [Hca2]; · iexact Hca2
  isplitl [Ha2]; · iexact Ha2
  isplitl [HO]; · iexact HO
  isplitl [H0]; · iexact H0
  isplitl [H1]; · iexact H1
  isplitl [HC]; · iexact HC
  isplitl [HW]; · iexact HW
  iintro %w %hw H0 H1 H2 HC HW Hr2 HO
  iapply WP_bind
  iapply (part18_spec m K c _ w hw)
  isplitr; · iexact Hrec
  isplitr; · iexact Hlev
  isplitl [Hc0]; · iexact Hc0
  isplitl [Hd0]; · iexact Hd0
  isplitl [HO]; · iexact HO
  isplitl [H2]; · iexact H2
  isplitl [HC]; · iexact HC
  isplitl [HW]; · iexact HW
  iintro H2 HC HL0 HW Hs0 HO
  iapply (wait_dep m K c 1) $$ [Hc1 HO Hd1]
  · isplitr; · iexact Hrec
    isplitr; · iexact Hlev
    isplitl [Hc1]; · iexact Hc1
    isplitl [HO]; · iexact HO
    iexact Hd1
  iintro ⟨HO, Hs1, HL1⟩
  iapply (wait_dep m K c 2) $$ [Hc2 HO Hd2]
  · isplitr; · iexact Hrec
    isplitr; · iexact Hlev
    isplitl [Hc2]; · iexact Hc2
    isplitl [HO]; · iexact HO
    iexact Hd2
  iintro ⟨HO, Hs2, HL2⟩
  ihave HC := (lend_back m c) $$ [HC HL0 HL1 HL2]
  · isplitl [HC]; · iexact HC
    isplitl [HL0]; · iexact HL0
    isplitl [HL1]; · iexact HL1
    iexact HL2
  by_cases hc : c = 0
  · iapply (WP_yes ((zero_iff c).mpr hc))
    subst hc
    unfold sendPos
    icases HsP with ⟨P0, P1, P2, V0, V1, V2⟩
    ihave Hl := (Entails.of_eq (late_zero (F := F))) $$ Hlate
    simp only [bigSepL_cons', bigSepL_nil]
    icases Hl with ⟨C0, C1, C2, D0, D1, D2, -⟩
    iapply WP_bind
    iapply (part6_spec m K)
    isplitr; · iexact Hrec
    isplitr; · iexact Hlev
    isplitl [C0]; · iexact C0
    isplitl [D0]; · iexact D0
    isplitl [C1]; · iexact C1
    isplitl [D1]; · iexact D1
    isplitl [P0]; · iexact P0
    isplitl [V0]; · iexact V0
    isplitl [P1]; · iexact P1
    isplitl [V1]; · iexact V1
    isplitl [HO]; · iexact HO
    iintro K0 W0 K1 W1 R0 S0 R1 S1 HO
    iapply (wait_ks m K 2) $$ [C2 HO P2]
    · isplitr; · iexact Hrec
      isplitr; · iexact Hlev
      isplitl [C2]; · iexact C2
      isplitl [HO]; · iexact HO
      iexact P2
    iintro ⟨HO, R2, K2⟩
    iapply (wait_vs m K 2) $$ [D2 HO V2]
    · isplitr; · iexact Hrec
      isplitr; · iexact Hlev
      isplitl [D2]; · iexact D2
      isplitl [HO]; · iexact HO
      iexact V2
    iintro ⟨HO, S2, W2⟩
    iapply WP_pure
    iapply Hk
    iapply (gather m 0)
    isplitl [Hst]; · iexact Hst
    isplitl [HW]; · iexact HW
    isplitl [K0 K1 K2 W0 W1 W2]
    · unfold sendBufs
      isplitl [K0 K1 K2]
      · iapply sk_join
        isplitl [K0]; · iexact K0
        isplitl [K1]; · iexact K1
        iexact K2
      iapply sv_join
      isplitl [W0]; · iexact W0
      isplitl [W1]; · iexact W1
      iexact W2
    isplitl [R0 R1 R2 S0 S1 S2]
    · unfold sendRest
      isplitl [R0]; · iexact R0
      isplitl [R1]; · iexact R1
      isplitl [R2]; · iexact R2
      isplitl [S0]; · iexact S0
      isplitl [S1]; · iexact S1
      iexact S2
    isplitl [HRK]; · iexact HRK
    isplitl [HRV]; · iexact HRV
    isplitl [H0 H1 H2 HC]
    · isplitl [H0]; · iexact H0
      isplitl [H1]; · iexact H1
      isplitl [H2]; · iexact H2
      iexact HC
    isplitl [Hab Hkr Hvr]
    · isplitl [Hab]; · iexact Hab
      isplitl [Hkr]; · iexact Hkr
      iexact Hvr
    isplitl [Hs0 Hs1 Hs2]
    · isplitl [Hs0]; · iexact Hs0
      isplitl [Hs1]; · iexact Hs1
      iexact Hs2
    isplitl [Hr0 Hr1 Hr2]
    · isplitl [Hr0]; · iexact Hr0
      isplitl [Hr1]; · iexact Hr1
      iexact Hr2
    iexact HO
  · iapply (WP_no fun h => hc ((zero_iff c).mp h))
    iapply WP_pure
    iapply Hk
    iapply (gather m c)
    isplitl [Hst]; · iexact Hst
    isplitl [HW]; · iexact HW
    isplitl [Hlate]
    · ihave Hl := (Entails.of_eq (late_other hc)) $$ Hlate
      iexact Hl
    isplitl [HsP]; · iapply (send_none c hc); iexact HsP
    isplitl [HRK]; · iexact HRK
    isplitl [HRV]; · iexact HRV
    isplitl [H0 H1 H2 HC]
    · isplitl [H0]; · iexact H0
      isplitl [H1]; · iexact H1
      isplitl [H2]; · iexact H2
      iexact HC
    isplitl [Hab Hkr Hvr]
    · isplitl [Hab]; · iexact Hab
      isplitl [Hkr]; · iexact Hkr
      iexact Hvr
    isplitl [Hs0 Hs1 Hs2]
    · isplitl [Hs0]; · iexact Hs0
      isplitl [Hs1]; · iexact Hs1
      iexact Hs2
    isplitl [Hr0 Hr1 Hr2]
    · isplitl [Hr0]; · iexact Hr0
      isplitl [Hr1]; · iexact Hr1
      iexact Hr2
    iexact HO

end Body

end Cert.Attn

end
-- ==== Proof.Start.lean ====
/-
# What a device starts from

The launch's gifts sorted into what each part of the kernel needs, and the counters at the end.
-/
module

public import proofs.«01_k».proof.Proof.Body

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

/-! ## Lists of assertions -/

section Lists
variable {I : Type}

omit [FloatOps F] [Named F] in
/-- Two assertions for each member of a list are two lists of assertions. -/
theorem list_both (l : List I) (Φ Ψ : I → sProp 𝕄) : iprop(bigSepL l Φ ∗ bigSepL l Ψ) ⊢ bigSepL l fun i => iprop(Φ i ∗ Ψ i) := by
  induction l with
  | nil => simp only [bigSepL_nil]; iintro ⟨H, -⟩; iexact H
  | cons i l ih =>
    simp only [bigSepL_cons']
    iintro ⟨⟨H1, H2⟩, H3, H4⟩
    isplitl [H1 H3]
    · isplitl [H1]; · iexact H1
      iexact H3
    iapply ih
    isplitl [H2]; · iexact H2
    iexact H4

omit [FloatOps F] [Named F] in
/-- A list of assertions that each hold of nothing. -/
theorem list_empty (l : List I) (Φ : I → sProp 𝕄) (h : ∀ i ∈ l, Φ i = iprop(emp)) : (iprop(emp) : sProp 𝕄) ⊢ bigSepL l Φ := by
  induction l with
  | nil => exact .rfl
  | cons i l ih =>
    rw [bigSepL_cons', h i List.mem_cons_self]
    iintro -
    isplitr; · iempintro
    iapply (ih fun j hj => h j (List.mem_cons_of_mem _ hj))
    iempintro

omit [FloatOps F] [Named F] in
/-- Updates of each member of a list, with a lasting fact at hand, are one update of the list. -/
theorem list_update (R : sProp 𝕄) [BI.Persistent R] (l : List I) (Φ Ψ : I → sProp 𝕄) (h : ∀ i, iprop(R ∗ Φ i) ⊢ iprop(|={Set.univ}=> Ψ i)) :
    iprop(R ∗ bigSepL l Φ) ⊢ iprop(|={Set.univ}=> bigSepL l Ψ : sProp 𝕄) := by
  induction l with
  | nil => simp only [bigSepL_nil]; iintro ⟨-, H⟩; imodintro; iexact H
  | cons i l ih =>
    simp only [bigSepL_cons']
    iintro ⟨#HR, H1, H2⟩
    imod (h i) $$ [H1] with H1
    · isplitr; · iexact HR
      iexact H1
    imod ih $$ [H2] with H2
    · isplitr; · iexact HR
      iexact H2
    imodintro
    isplitl [H1]; · iexact H1
    iexact H2

end Lists

section Start
variable (m : (ℓ : Loc nD τ sig) → Buf (Elt F) ℓ) (K : Dev nD × Cl → ℕ) (c : Dev nD)

/-! ## The payments a device makes -/

/-- All payments of a device. -/
def allToks : sProp 𝕄 := bigSepL (pays c) fun ck => dutyTok ER (kcell ck) 0 c
/-- The payments of the hand-out, which only device 0 makes. -/
def zeroToks : sProp 𝕄 := if c = 0 then scatToks (F := F) else iprop(emp)

omit [FloatOps F] [Named F] in
/-- They are the signals, the hand-out's and the exchange's. -/
theorem toks_split : allToks (F := F) c ⊢ iprop((bigSepL (others c 0) fun t => dutyTok ER (kcell (t, .bar)) 0 c) ∗ zeroToks (F := F) c ∗ partToks (F := F) c) := by
  unfold allToks zeroToks partToks pays due0 due1 selfs bars arrs deps scatToks
  simp only [bigSepL_append, bigSepL_map]
  by_cases h : c = 0
  · subst h
    simp only [if_true, bigSepL_cons', bigSepL_nil]
    iintro ⟨⟨HB, HS, A0, A1, A2, -⟩, HD, D0, D1, D2, -⟩
    isplitl [HB]; · iexact HB
    isplitl [HS HD]
    · isplitl [HS]; · iexact HS
      iexact HD
    isplitl [D0]; · iexact D0
    isplitl [A0]; · iexact A0
    isplitl [D1]; · iexact D1
    isplitl [A1]; · iexact A1
    isplitl [D2]; · iexact D2
    iexact A2
  · simp only [if_neg h, bigSepL_cons', bigSepL_nil]
    iintro ⟨⟨HB, -, A0, A1, A2, -⟩, -, D0, D1, D2, -⟩
    isplitl [HB]; · iexact HB
    isplitr; · iempintro
    isplitl [D0]; · iexact D0
    isplitl [A0]; · iexact A0
    isplitl [D1]; · iexact D1
    isplitl [A1]; · iexact A1
    isplitl [D2]; · iexact D2
    iexact A2

/-! ## The places a device offers -/

/-- The slots that a device offers are the three that are not its own. -/
theorem offer_slots : ∀ c : Dev nD, ([0, 1, 2] : List (Fin 4)).toFinset = ((others c 0).map fun t => c - t - 1).toFinset := by decide
/-- Each is offered once. -/
theorem offer_nodup : ∀ c : Dev nD, ((others c 0).map fun t => (c - t - 1 : Fin 4)).Nodup := by decide

omit [FloatOps F] [Named F] in
/-- The buffer of the parts is one slot for each other device and one for the device itself. -/
theorem cb_split : (iprop(∃ f, cbM.view.loc (c : Thread nD τ) ↦{fullShare} f) : sProp 𝕄)
    ⊢ iprop((bigSepL (others c 0) fun t => iprop(∃ f, cbPts (F := F) c (c - t - 1) fullShare f)) ∗ (∃ f, cbPts (F := F) c 3 fullShare f)) := by
  have hp (f : Vec F S4x2x256x512 .bf16) : (bigSepL [0, 1, 2] fun o => cbPts (F := F) c o fullShare f) = bigSepL (others c 0) fun t => cbPts (F := F) c (c - t - 1) fullShare f := by
    rw [← bigSep_eq_bigSepL_of_eq [0, 1, 2] rfl (by decide), ← bigSepL_map (fun t : Dev nD => (c - t - 1 : Fin 4)) (others c 0) fun o => cbPts (F := F) c o fullShare f]
    exact bigSep_eq_bigSepL_of_eq _ (offer_slots c) (offer_nodup c) _
  have hs (f : Vec F S4x2x256x512 .bf16) : (cbM.view.loc (c : Thread nD τ) ↦{fullShare} f : sProp 𝕄) ⊢ iprop((bigSepL [0, 1, 2] fun o => cbPts (F := F) c o fullShare f) ∗ cbPts (F := F) c 3 fullShare f) := by
    rw [pointsTo_blocks (ℓ := cbM.view.loc (c : Thread nD τ)) cbSet cbSet_disjoint cbSet_cover f, bigSep_univ_eq_bigSepL [0, 1, 2, 3] (by decide) (by decide)]
    simp only [bigSepL_cons', bigSepL_nil]
    unfold cbPts
    iintro ⟨H0, H1, H2, H3, -⟩
    isplitr [H3]
    · isplitl [H0]; · iexact H0
      isplitl [H1]; · iexact H1
      isplitl [H2]; · iexact H2
      iempintro
    iexact H3
  iintro ⟨%f, H⟩
  ihave H := (hs f) $$ H
  icases H with ⟨H1, H2⟩
  isplitl [H1]
  · ihave H1 := (Entails.of_eq (hp f)) $$ H1
    iapply (bigSepL_mono (Φ := fun t : Dev nD => cbPts (F := F) c (c - t - 1) fullShare f) fun t _ => exists_intro f)
    iexact H1
  iexists f; iexact H2

/-- From device 1 on, no other device is device 0. -/
theorem others_zero : ∀ c t : Dev nD, t ∈ others c 1 → t ≠ 0 := by decide
/-- Device 0's others are not device 0. -/
theorem others_of_zero : ∀ t : Dev nD, t ∈ others 0 0 → t ≠ 0 := by decide

/-- The device's key and value buffers: offered to device 0, or kept by it. -/
theorem keys_split : iprop((∃ f, rkM.view.loc (c : Thread nD τ) ↦{fullShare} f) ∗ (∃ f, rvM.view.loc (c : Thread nD τ) ↦{fullShare} f) ∗ zeroToks (F := F) c)
    ⊢ iprop((bigSepL (others c 0) fun t => if t = 0 then iprop((∃ f, rkPts (F := F) c f) ∗ (∃ f, rvPts (F := F) c f)) else iprop(emp)) ∗ kept (F := F) c) := by
  have hk : (iprop(∃ f, rkM.view.loc (c : Thread nD τ) ↦{fullShare} f) : sProp 𝕄) ⊢ iprop(∃ f, rkPts (F := F) c f) := by
    iintro ⟨%f, H⟩; iexists f; rw [rkPts_whole]; iexact H
  have hv : (iprop(∃ f, rvM.view.loc (c : Thread nD τ) ↦{fullShare} f) : sProp 𝕄) ⊢ iprop(∃ f, rvPts (F := F) c f) := by
    iintro ⟨%f, H⟩; iexists f; rw [rvPts_whole]; iexact H
  unfold zeroToks kept
  by_cases h : c = 0
  · subst h
    simp only [if_true]
    iintro ⟨HK, HV, HT⟩
    isplitr
    · iapply (list_empty _ _ fun t ht => if_neg (others_of_zero t ht)); iempintro
    isplitl [HK]; · iapply hk; iexact HK
    isplitl [HV]; · iapply hv; iexact HV
    iexact HT
  · rw [show others c 0 = 0 :: others c 1 from others_here c 0 h, bigSepL_cons', if_pos rfl, if_neg h, if_neg h]
    iintro ⟨HK, HV, -⟩
    isplitl
    · isplitl
      · isplitl [HK]; · iapply hk; iexact HK
        iapply hv; iexact HV
      iapply (list_empty _ _ fun t ht => if_neg (others_zero c t ht)); iempintro
    iempintro

/-! ## The start -/

/-- The positions of all cells of a device. -/
def allPos : sProp 𝕄 := bigSepL allCl fun k => atPos ER (kcell (c, k)) 0 ∅ 0

omit [FloatOps F] [Named F] in
/-- A device's places in the protocol: those of its sends and the rest. -/
theorem pos_split : allPos (F := F) c ⊢ iprop(sendPos (F := F) c ∗ restPos (F := F) c) := by
  unfold allPos sendPos restPos
  simp only [bigSepL_cons', bigSepL_nil]
  iintro ⟨HB, Hk, Hv, A0, A1, A2, B0, B1, B2, D0, D1, D2, E0, E1, E2, -⟩
  isplitl [A0 A1 A2 B0 B1 B2]
  · isplitl [A0]; · iexact A0
    isplitl [A1]; · iexact A1
    isplitl [A2]; · iexact A2
    isplitl [B0]; · iexact B0
    isplitl [B1]; · iexact B1
    iexact B2
  isplitl [HB]; · iexact HB
  isplitl [Hk]; · iexact Hk
  isplitl [Hv]; · iexact Hv
  isplitl [D0]; · iexact D0
  isplitl [D1]; · iexact D1
  isplitl [D2]; · iexact D2
  isplitl [E0]; · iexact E0
  isplitl [E1]; · iexact E1
  iexact E2

/-- From what a launch gives a device to what its kernel starts from. -/
theorem start_of :
    iprop(records m K ∗ levAts L lv ∗ allPos (F := F) c ∗ allToks (F := F) c ∗ startCreds (F := F) c ∗ scratch (F := F) c ∗ owesL (F := F) c (due0 c) ∗ staged m c
        ∗ (∃ f, oM.view.loc (c : Thread nD τ) ↦{fullShare} f))
      ⊢ bodyStart m K c := by
  unfold bodyStart scratch
  iintro ⟨#Hrec, #Hlev, Hpos, Htok, Hcr, ⟨HS, HRK, HRV, HCB⟩, HO, Hst, HW⟩
  ihave Hpos := (pos_split (F := F) c) $$ Hpos
  icases Hpos with ⟨Hp1, Hp2⟩
  ihave Htok := (toks_split (F := F) c) $$ Htok
  icases Htok with ⟨Hbar, Hz, Hpart⟩
  ihave HCB := (cb_split (F := F) c) $$ HCB
  icases HCB with ⟨Hslots, Hown⟩
  ihave HK := (keys_split (F := F) c) $$ [HRK HRV Hz]
  · isplitl [HRK]; · iexact HRK
    isplitl [HRV]; · iexact HRV
    iexact Hz
  icases HK with ⟨Hgift, Hkept⟩
  isplitr; · iexact Hrec
  isplitr; · iexact Hlev
  isplitl [Hbar Hslots Hgift HO]
  · unfold toSignal
    isplitr [HO]
    · ihave H := (list_both (others c 0) _ _) $$ [Hslots Hgift]
      · isplitl [Hslots]; · iexact Hslots
        iexact Hgift
      ihave H := (list_both (others c 0) _ _) $$ [Hbar H]
      · isplitl [Hbar]; · iexact Hbar
        iexact H
      iexact H
    iexact HO
  isplitl [Hkept]; · iexact Hkept
  isplitl [HS]; · iexact HS
  isplitl [Hown]; · iexact Hown
  isplitl [Hst]; · iexact Hst
  isplitl [HW]; · iexact HW
  isplitl [Hcr]; · iexact Hcr
  isplitl [Hp1]; · iexact Hp1
  isplitl [Hp2]; · iexact Hp2
  iexact Hpart

/-- At the end every counter of a device is back at zero. -/
theorem close_all : iprop(records m K ∗ bigSepL allCl (fun x => rested (F := F) c x)) ⊢ iprop(|={Set.univ}=> bigSepL allCl (fun x => semVal (kcell (c, x)) 0) : sProp 𝕄) := by
  refine list_update (records m K) allCl _ _ fun x => ?_
  unfold rested
  iintro ⟨#Hrec, %R, %hR, H⟩
  iapply (step_close m K c x R hR)
  isplitr; · iexact Hrec
  iexact H

end Start

end Cert.Attn

end
-- ==== Proof.Region.lean ====
/-
# The region on one device

What the pipelined region holds before and after its one point, and that the kernel takes one to the other.
-/
module

public import proofs.«01_k».proof.Proof.Start
public import proofs.«01_k».proof.Proof.Gen.KernelIdeal.Launch
public import proofs.«01_k».proof.Proof.Gen.KernelIdeal.Points

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

open Idealize.ShloMosaic.Pipeline (Dat BodyObligation)

section Region
variable (m : (ℓ : Loc nD τ sig) → Buf (Elt F) ℓ) (ρ : Dev nD → PrngReg)

/-- The memory the kernel is launched from: the given contents, every counter at zero. -/
abbrev launched : MemSt nD τ sig (Elt F) := ⟨m, fun _ => 0, ρ⟩

/-! ## What a device holds before and after its kernel -/

/-- What the launch gives a device beside its buffers. -/
def given (c : Dev nD) : sProp 𝕄 :=
  iprop((∃ K, records m K ∗ allPos (F := F) c ∗ allToks (F := F) c) ∗ startCreds (F := F) c ∗ levAts L lv)
/-- Every counter of a device, at zero. -/
def zeros (c : Dev nD) : sProp 𝕄 := bigSepL allCl fun x => semVal (kcell (c, x)) 0
/-- What a device holds when the body starts. -/
def heldBefore (c : Dev nD) : sProp 𝕄 := iprop(given m c ∗ scratch (F := F) c)
/-- What it holds when the body has ended. -/
def heldAfter (c : Dev nD) : sProp 𝕄 := iprop(scratch (F := F) c ∗ zeros (F := F) c)

/-- The region's account on device `c`: its inputs stay, its output becomes the sum of the four parts. -/
def acct (_ : Fin 1) (c : Dev nD) : Dat τ (Elt F) Unit ℕ UU ℕ cfg0 c where
  A w := (launched m ρ).mem ((cfg0.win w).arr.view.loc (c : Thread nD τ))
  after w _ := match w with
    | ⟨0, _⟩ => xs m c
    | ⟨1, _⟩ => wqs m c
    | ⟨2, _⟩ => ks m c
    | ⟨3, _⟩ => vs m c
    | ⟨4, _⟩ => wos m c
    | ⟨5, _⟩ => outP m c
  Φ t := match t with
    | ⟨0, _⟩ => heldBefore m c
    | ⟨_ + 1, _⟩ => heldAfter (F := F) c
  q _ := fullShare
  owed t := match t with
    | ⟨0, _⟩ => O₀ c
    | ⟨_ + 1, _⟩ => 0

omit [FloatOps F] [Named F] in
/-- A whole buffer that holds `X`. -/
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` that holds `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The activations are staged. -/
theorem before_x (c : Dev nD) (d) : (acct m ρ 0 c).before (0 : Fin 6) t0_0 d = xs m c := by unfold Dat.before; rw [if_pos (fetch0_0 t0_0)]; rfl
/-- The query weights are staged. -/
theorem before_wq (c : Dev nD) (d) : (acct m ρ 0 c).before (1 : Fin 6) t0_0 d = wqs m c := by unfold Dat.before; rw [if_pos (fetch0_1 t0_0)]; rfl
/-- The keys are staged. -/
theorem before_k (c : Dev nD) (d) : (acct m ρ 0 c).before (2 : Fin 6) t0_0 d = ks m c := by unfold Dat.before; rw [if_pos (fetch0_2 t0_0)]; rfl
/-- The values are staged. -/
theorem before_v (c : Dev nD) (d) : (acct m ρ 0 c).before (3 : Fin 6) t0_0 d = vs m c := by unfold Dat.before; rw [if_pos (fetch0_3 t0_0)]; rfl
/-- The output weights are staged. -/
theorem before_wo (c : Dev nD) (d) : (acct m ρ 0 c).before (4 : Fin 6) t0_0 d = wos m c := by unfold Dat.before; rw [if_pos (fetch0_4 t0_0)]; rfl

/-- What the kernel finds. -/
def found (c : Dev nD) : sProp 𝕄 :=
  iprop(heldBefore m c ∗ (acct m ρ 0 c).owesAt () t0_0.castSucc
    ∗ (∃ d, holds c cc0_stg0_0 ((acct m ρ 0 c).before (0 : Fin 6) t0_0 d)) ∗ (∃ d, holds c cc0_stg1_0 ((acct m ρ 0 c).before (1 : Fin 6) t0_0 d))
    ∗ (∃ d, holds c cc0_stg2_0 ((acct m ρ 0 c).before (2 : Fin 6) t0_0 d)) ∗ (∃ d, holds c cc0_stg3_0 ((acct m ρ 0 c).before (3 : Fin 6) t0_0 d))
    ∗ (∃ d, holds c cc0_stg4_0 ((acct m ρ 0 c).before (4 : Fin 6) t0_0 d)) ∗ (∃ d, holds c cc0_stg5_0 ((acct m ρ 0 c).before (5 : Fin 6) t0_0 d)))
/-- What it leaves. -/
def left (c : Dev nD) : sProp 𝕄 :=
  iprop(heldAfter (F := F) c ∗ (acct m ρ 0 c).owesAt () t0_0.succ
    ∗ holds c cc0_stg0_0 (xs m c) ∗ holds c cc0_stg1_0 (wqs m c) ∗ holds c cc0_stg2_0 (ks m c) ∗ holds c cc0_stg3_0 (vs m c) ∗ holds c cc0_stg4_0 (wos m c)
    ∗ holds c cc0_stg5_0 (outP m c))

omit [FloatOps F] [Named F] in
/-- A buffer at `X` holds `X`. -/
theorem hold (c : Dev nD) (b : Ref sig .tc) (X : b.ty.Contents (Elt F)) : (((c : Thread nD τ).loc b ↦{fullShare} X) : sProp 𝕄) ⊢ holds c b X := by
  iintro H; iexists X; isplitr; · (ipureintro; rfl)
  iexact H

/-- An update may follow a program. -/
theorem WP_update {c : Dev nD} {α : Type} {p : Prog (TpuEff nD τ sig (Elt F) Λ₀ .tc) α} {Q : α → sProp 𝕄} :
    WP c p (fun a => iprop(|={Set.univ}=> Q a)) ⊢ WP c p Q := wp_fupd frame _ Set.univ p Q

/-- A device at the end of its kernel has what it must leave. -/
theorem leave (K : Dev nD × Cl → ℕ) (c : Dev nD) : iprop(records m K ∗ bodyEnd m c) ⊢ iprop(|={Set.univ}=> left m ρ c : sProp 𝕄) := by
  unfold bodyEnd staged left heldAfter zeros owesL
  iintro ⟨#Hrec, ⟨Hx, Hwq, Hk, Hv, Hwo⟩, HW, Hscr, Hrest, %W, HO⟩
  imod (close_all m K c) $$ [Hrest] with Hz
  · isplitr; · iexact Hrec
    iexact Hrest
  imodintro
  isplitl [Hscr Hz]
  · isplitl [Hscr]; · iexact Hscr
    iexact Hz
  isplitl [HO]
  · unfold Dat.owesAt Pipeline.owesWithin
    rw [show (acct m ρ 0 c).owed t0_0.succ = 0 from rfl]
    iexists W
    isplitr; · ipureintro; exact fun _ _ => Or.inl trivial
    iexact HO
  isplitl [Hx]; · iapply hold; iexact Hx
  isplitl [Hwq]; · iapply hold; iexact Hwq
  isplitl [Hk]; · iapply hold; iexact Hk
  isplitl [Hv]; · iapply hold; iexact Hv
  isplitl [Hwo]; · iapply hold; iexact Hwo
  iapply hold; iexact HW

/-- The kernel takes what it finds to what it leaves. -/
theorem kernel_run (c : Dev nD) : found m ρ c ⊢ WP c (cc0_body xM (Memref.isWhole_whole _) wqM (Memref.isWhole_whole _) kM (Memref.isWhole_whole _) vM (Memref.isWhole_whole _) woM (Memref.isWhole_whole _) oM (Memref.isWhole_whole _) skM (Memref.isWhole_whole _) svM (Memref.isWhole_whole _) rkM (Memref.isWhole_whole _) rvM (Memref.isWhole_whole _) cbM (Memref.isWhole_whole _) cc0_scratch5 cc0_scratch6 cc0_scratch7 cc0_scratch8 cc0_scratch9 cc0_scratch10) (fun _ => left m ρ c) := by
  unfold found heldBefore given
  iintro ⟨⟨⟨⟨%K, #Hrec, Hpos, Htok⟩, Hcr, #Hlev⟩, Hscr⟩, HO, ⟨%d0, %f0, %h0, Hx⟩, ⟨%d1, %f1, %h1, Hwq⟩, ⟨%d2, %f2, %h2, Hk⟩, ⟨%d3, %f3, %h3, Hv⟩, ⟨%d4, %f4, %h4, Hwo⟩, ⟨%d5, %f5, %h5, HW⟩⟩
  rw [before_x] at h0
  rw [before_wq] at h1
  rw [before_k] at h2
  rw [before_v] at h3
  rw [before_wo] at h4
  subst h0 h1 h2 h3 h4
  unfold Dat.owesAt Pipeline.owesWithin
  icases HO with ⟨%W, -, HO⟩
  rw [show (acct m ρ 0 c).owed t0_0.castSucc = O₀ c from rfl]
  ihave Hs := (start_of m K c) $$ [Hpos Htok Hcr Hscr HO Hx Hwq Hk Hv Hwo HW]
  · isplitr; · iexact Hrec
    isplitr; · iexact Hlev
    isplitl [Hpos]; · iexact Hpos
    isplitl [Htok]; · iexact Htok
    isplitl [Hcr]; · iexact Hcr
    isplitl [Hscr]; · iexact Hscr
    isplitl [HO]; · unfold owesL; iexists W; iexact HO
    isplitl [Hx Hwq Hk Hv Hwo]
    · unfold staged
      isplitl [Hx]; · iexact Hx
      isplitl [Hwq]; · iexact Hwq
      isplitl [Hk]; · iexact Hk
      isplitl [Hv]; · iexact Hv
      iexact Hwo
    iexists f5; iexact HW
  iapply WP_update
  iapply (body_run m K c (Q := fun _ => iprop(|={Set.univ}=> left m ρ c)))
  isplitl [Hs]; · iexact Hs
  iintro He
  iapply (leave m ρ K c)
  isplitr; · iexact Hrec
  iexact He

set_option maxRecDepth 4000 in
/-- The same as the library states it. -/
theorem kernel_obligation (c : Dev nD) : BodyObligation (acct (F := F) m ρ 0 c) (defs₀ (F := F)) 𝒱₀ () Set.univ := fun t => by
  rw [fin_N0 t]
  rw [bigSep_W0, bigSep_W0]
  simp only [owns_all]
  exact kernel_run m ρ c

end Region

end Cert.Attn

end
-- ==== Proof.Launch.lean ====
/-
# The launch on four devices

The cells opened, the payments minted, the credits dealt, and the run of the whole program.
-/
module

public import proofs.«01_k».proof.Proof.Region
public import Idealize.ShloMosaic.Lib.Pipeline.Launch
public import Idealize.ShloMosaic.Lib.Pipeline.CollectiveSegs
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

open Idealize.ShloMosaic.Pipeline (Dat)

section Launch
variable (m : (ℓ : Loc nD τ sig) → Buf (Elt F) ℓ) (ρ : Dev nD → PrngReg)

/-! ## The counters -/

/-- The kernel's own counters: all cells but the barrier. -/
abbrev own : Fin 14 → Cl := ![.kr, .vr, .ks 0, .ks 1, .ks 2, .vs 0, .vs 1, .vs 2, .dep 0, .dep 1, .dep 2, .arr 0, .arr 1, .arr 2]
/-- The semaphores of the kernel's own. -/
abbrev ownSem : Fin 14 → SemLoc sig := fun i => csem (own i)
/-- They are fourteen different ones, none of them the region's. -/
theorem ownSem_facts : Pipeline.OwnSemFacts cfg0.spec ownSem := by decide

omit [FloatOps F] [Named F] in
/-- Their counters start at zero. -/
theorem own_zeros (c : Dev nD) : (Pipeline.ownSems0 (Ix := Unit) (Name := ℕ) (U := UU) (Lvl := ℕ) (Val := Elt F) (τ := τ) ownSem c : sProp 𝕄)
    = bigSepL [0, 1, 2, 3, 4, 5, 6, 7, 8, 9, 10, 11, 12, 13] fun k => semVal ((c : Thread nD τ), ownSem k) 0 :=
  Pipeline.ownSems0_eq_of_list c ownSem _ (by decide) (by decide)
omit [FloatOps F] [Named F] in
/-- So does the barrier's. -/
theorem bar_zero (c : Dev nD) : (unscopedSems0 c : sProp 𝕄) = semVal (kcell (c, .bar)) 0 := by
  unfold unscopedSems0; rw [bigSep_eq_bigSepL_of_eq [SemLoc.reg barS] (by decide) (by decide)]; rfl

omit [FloatOps F] [Named F] in
/-- The barrier's counter and the kernel's own are all fifteen. -/
theorem zeros_eq (c : Dev nD) :
    zeros (F := F) c = iprop(unscopedSems0 c ∗ Pipeline.ownSems0 (Ix := Unit) (Name := ℕ) (U := UU) (Lvl := ℕ) (Val := Elt F) (τ := τ) ownSem c) := by
  rw [own_zeros, bar_zero]
  unfold zeros
  simp only [bigSepL_cons', bigSepL_nil]
  rfl

/-! ## What the launch mints -/

/-- All the cells of all devices. -/
def allCells : Finset (GSem nD τ sig) := Finset.univ.map ⟨kcell, kcell_inj⟩

/-- Device `c`'s payment to a cell, as it is minted. -/
def tokOf (c : Dev nD) (ck : Dev nD × Cl) : GSem nD τ sig × ℕ × Dev nD := (kcell ck, 0, c)
/-- Different payments have different names. -/
theorem tokOf_inj (c : Dev nD) : Function.Injective (tokOf c) := fun a b h => kcell_inj (congrArg Prod.fst h)
/-- The payments of one device. -/
def minted (c : Dev nD) : Finset (GSem nD τ sig × ℕ × Dev nD) := (pays c).toFinset.map ⟨tokOf c, tokOf_inj c⟩
/-- The payments of all devices. -/
def allMinted : Finset (GSem nD τ sig × ℕ × Dev nD) := Finset.univ.biUnion minted

/-- Different devices' payments are different. -/
theorem minted_disjoint (c : Dev nD) (_ : c ∈ (Finset.univ : Finset (Dev nD))) (d : Dev nD) (_ : d ∈ (Finset.univ : Finset (Dev nD))) (h : c ≠ d) :
    Disjoint (minted c) (minted d) := by
  refine Finset.disjoint_left.mpr fun x hx hy => h ?_
  obtain ⟨a, -, rfl⟩ := Finset.mem_map.mp hx
  obtain ⟨b, -, e⟩ := Finset.mem_map.mp hy
  exact (congrArg (fun t : GSem nD τ sig × ℕ × Dev nD => t.2.2) e).symm

/-- The protocol's state at the launch. -/
def u₀ : UU :=
  (initOf (Pipeline.cells cfgs cellOf_inj) (Pipeline.launchToks cfgs cellOf_inj), initOf allCells allMinted)

/-- What the minting gives device `c`. -/
def dealt (c : Dev nD) : sProp 𝕄 :=
  iprop((bigSep Finset.univ fun k : Cl => roundState ER (Rd m) (kcell (c, k)) 0)
    ∗ (bigSep Finset.univ fun k : Cl => reached ER (kcell (c, k)) 0) ∗ (bigSep Finset.univ fun k : Cl => atPos ER (kcell (c, k)) 0 ∅ 0) ∗ allToks (F := F) c)

omit [FloatOps F] [Named F] in
/-- All the cells, device by device. -/
theorem cells_by_device (Φ : GSem nD τ sig → sProp 𝕄) : bigSep allCells Φ = bigSep Finset.univ fun c : Dev nD => bigSep Finset.univ fun k : Cl => Φ (kcell (c, k)) := by
  unfold allCells; rw [bigSep_map, bigSep_univ_prod]; rfl

omit [FloatOps F] [Named F] in
/-- All the payments, device by device. -/
theorem toks_by_device : bigSep allMinted (fun x => (dutyTok ER x.1 x.2.1 x.2.2 : sProp 𝕄)) = bigSep Finset.univ fun c : Dev nD => allToks (F := F) c := by
  unfold allMinted
  rw [bigSep_biUnion_eq _ _ _ minted_disjoint]
  refine bigSep_congr fun c _ => ?_
  unfold minted allToks
  rw [bigSep_map, bigSep_eq_bigSepL _ (pays_nodup c)]
  rfl

/-- The launch deals every device its cells and payments. -/
theorem mint : BI.own (ER (initOf allCells allMinted)) ⊢ (|==> bigSep Finset.univ (dealt m) : sProp 𝕄) := by
  iintro HX
  imod (Rounds.fund ER (Rd m) allCells allMinted) $$ HX with ⟨Hst, Hr, Hat, Htok⟩
  imodintro
  ihave Hst := (Entails.of_eq (cells_by_device fun g => roundState ER (Rd m) g 0)) $$ Hst
  ihave Hr := (Entails.of_eq (cells_by_device (F := F) fun g => reached ER g 0)) $$ Hr
  ihave Hat := (Entails.of_eq (cells_by_device (F := F) fun g => atPos ER g 0 ∅ 0)) $$ Hat
  ihave Htok := (Entails.of_eq (toks_by_device (F := F))) $$ Htok
  unfold dealt; simp only [bigSep_sep']
  isplitl [Hst]; · iexact Hst
  isplitl [Hr]; · iexact Hr
  isplitl [Hat]; · iexact Hat
  iexact Htok

/-! ## The cells opened, and their records shared -/

/-- What a device has once all cells are open. -/
def ready (c : Dev nD) : sProp 𝕄 := iprop(∃ K, records m K ∗ allPos (F := F) c ∗ allToks (F := F) c)

/-- A device's cells opened. -/
theorem open_cells (c : Dev nD) :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun k : Cl => iprop(∃ κ : ℕ, cellInv ER (Rd m) κ (kcell (c, k))))
          ∗ (bigSep Finset.univ fun k : Cl => reached ER (kcell (c, k)) 0) ∗ allPos (F := F) c ∗ allToks (F := F) c) := by
  have ho : iprop((bigSep Finset.univ fun k : Cl => semVal (kcell (c, k)) 0) ∗ bigSep Finset.univ fun k : Cl => roundState ER (Rd m) (kcell (c, k)) 0)
      ⊢ (|={Set.univ}=> bigSep Finset.univ fun k : Cl => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  have hz : iprop(unscopedSems0 c ∗ Pipeline.ownSems0 (Ix := Unit) (Name := ℕ) (U := UU) (Lvl := ℕ) (Val := Elt F) (τ := τ) ownSem c)
      = (bigSep Finset.univ fun k : Cl => semVal (kcell (c, k)) 0 : sProp 𝕄) := by
    rw [← zeros_eq, zeros, bigSep_univ_eq_bigSepL allCl univ_cl nodup_cl]
  have hp : (bigSep Finset.univ fun k : Cl => atPos ER (kcell (c, k)) 0 ∅ 0 : sProp 𝕄) = allPos (F := F) c := bigSep_univ_eq_bigSepL allCl univ_cl nodup_cl _
  unfold dealt
  rw [hp]
  iintro ⟨Hos, Hus, Hst, Hr, Hat, Htok⟩
  ihave Hz := (Entails.of_eq hz) $$ [Hos Hus]
  · isplitl [Hus]; · iexact Hus
    iexact Hos
  imod ho $$ [Hz Hst] with HI
  · isplitl [Hz]; · iexact Hz
    iexact Hst
  imodintro
  isplitl [HI]; · iexact HI
  isplitl [Hr]; · iexact Hr
  isplitl [Hat]; · iexact Hat
  iexact Htok

/-- The records of all cells, for every device. -/
theorem share_records :
    (bigSep Finset.univ fun c : Dev nD => iprop((bigSep Finset.univ fun k : Cl => iprop(∃ κ : ℕ, cellInv ER (Rd m) κ (kcell (c, k))))
          ∗ (bigSep Finset.univ fun k : Cl => reached ER (kcell (c, k)) 0) ∗ allPos (F := F) c ∗ allToks (F := F) c) : sProp 𝕄)
      ⊢ bigSep Finset.univ (ready m) := by
  rw [bigSep_sep', bigSep_sep', ← bigSep_univ_prod (fun ck : Dev nD × Cl => iprop(∃ κ : ℕ, cellInv ER (Rd m) κ (kcell ck))),
    ← bigSep_univ_prod (fun ck : Dev nD × Cl => (reached ER (kcell ck) 0 : sProp 𝕄))]
  iintro ⟨HI, #HR, Hmine⟩
  ihave HK := (BI.bigSep_exists_pi Finset.univ (fun (ck : Dev nD × Cl) (κ : ℕ) => (cellInv ER (Rd m) κ (kcell ck) : sProp 𝕄))) $$ HI
  icases HK with ⟨%K, #HI⟩
  have h1 (c : Dev nD) : iprop(records m K ∗ allPos (F := F) c ∗ allToks (F := F) c) ⊢ ready m c := by
    unfold ready
    iintro H; iexists K; iexact H
  have hr : iprop(records m K ∗ bigSep Finset.univ fun c : Dev nD => iprop(allPos (F := F) c ∗ allToks (F := F) c)) ⊢ bigSep Finset.univ (ready m) := by
    refine (sep_mono_left (BI.bigSep_of_persistent (Finset.univ : Finset (Dev nD)) (records m K))).trans ?_
    rw [← bigSep_sep']
    exact bigSep_mono fun c _ => h1 c
  iapply hr
  isplitr
  · unfold records
    rw [bigSep_sep']
    isplitl; · iexact HI
    iexact HR
  iexact Hmine

/-- All cells are opened with their counters at zero, and every device gets their records. -/
theorem open_all :
    (bigSep Finset.univ fun c => iprop(Pipeline.ownSems0 (Ix := Unit) (Name := ℕ) (U := UU) (Lvl := ℕ) (Val := Elt F) (τ := τ) ownSem c ∗ unscopedSems0 c ∗ dealt m c) : sProp 𝕄)
    ⊢ |={Set.univ}=> bigSep Finset.univ (ready m) :=
  ((bigSep_mono fun c _ => open_cells m c).trans (bigSep_fupd _ _)).trans (BI.fupd_mono (share_records m))

/-! ## The credits -/

/-- How many payments others owe a cell at launch. -/
def dueN (c : Dev nD) : Cl → ℕ
  | .bar => 3 | .kr | .vr => if c = 0 then 0 else 1 | .arr _ => 1 | _ => 0

/-- The credit a launch gives for one cell. -/
theorem credit_of (c : Dev nD) (k : Cl) :
    tallyOn (kcell (c, k)) (launchCredit (Pipeline.owing O₀) 0 (kcell (c, k))) = (tallyAt (kcell (c, k)) () (dueN c k * amt k) : CellTallies nD τ sig Unit) := by
  unfold tallyAt; refine congrArg _ (Finsupp.ext fun u => ?_); cases u
  rw [Pipeline.launchCredit_owing, Finsupp.single_eq_same, Finset.sum_congr rfl fun d _ => show O₀ d (kcell (c, k)) () = _ from owed_at (c, k) (due0 d), ← Finset.sum_mul, due_count c k]
  cases k <;> rfl

/-- The cells that others pay to a device are different semaphores. -/
theorem csem_nodup : ((([.bar, .kr, .vr, .arr 0, .arr 1, .arr 2] : List Cl).map csem)).Nodup := by decide

omit [FloatOps F] [Named F] in
/-- What a device is given to wait with. -/
theorem credits (c : Dev nD) : (Pipeline.launchCred O₀ c : sProp 𝕄) ⊢ startCreds (F := F) c := by
  unfold Pipeline.launchCred
  refine BIBase.Entails.trans (bigSep_subset (t := (([.bar, .kr, .vr, .arr 0, .arr 1, .arr 2] : List Cl).map csem).toFinset) (Finset.subset_univ _)) ?_
  rw [bigSep_eq_bigSepL _ csem_nodup, bigSepL_map]
  have h (k : Cl) := credit_of c k
  simp only [bigSepL_cons', bigSepL_nil, h]
  unfold startCreds keyCreds
  by_cases hc : c = 0
  · subst hc
    simp only [if_true]
    iintro ⟨HB, -, -, H0, H1, H2, -⟩
    isplitl [HB]; · iexact HB
    isplitr; · iempintro
    isplitl [H0]; · rw [← Nat.one_mul NA]; iexact H0
    isplitl [H1]; · rw [← Nat.one_mul NA]; iexact H1
    rw [← Nat.one_mul NA]; iexact H2
  · rw [if_neg hc]
    have e (k : Cl) (hk : k = .kr ∨ k = .vr) : dueN c k * amt k = NK := by
      rcases hk with rfl | rfl <;> exact (congrArg (· * NK) (if_neg hc)).trans (Nat.one_mul NK)
    rw [e .kr (Or.inl rfl), e .vr (Or.inr rfl)]
    iintro ⟨HB, HK, HV, H0, H1, H2, -⟩
    isplitl [HB]; · iexact HB
    isplitl [HK HV]
    · isplitl [HK]; · iexact HK
      iexact HV
    isplitl [H0]; · rw [← Nat.one_mul NA]; iexact H0
    isplitl [H1]; · rw [← Nat.one_mul NA]; iexact H1
    rw [← Nat.one_mul NA]; iexact H2

/-! ## Entering and leaving -/

/-- What the launch gives a device is what the body starts from. -/
theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(given m c ∗ emp) := by
  iintro ⟨-, Hlev, Hcr, -, HG⟩
  ihave Hc := (credits (F := F) c) $$ Hcr
  imodintro
  unfold given ready
  isplitl
  · isplitl [HG]; · iexact HG
    isplitl [Hc]; · iexact Hc
    iexact Hlev
  · iempintro

/-- So the region may be entered. -/
theorem enter_region (c : Dev nD) :
    iprop(given m c ∗ Pipeline.prefHeld Pipeline.Prefetch.none c (fun _ => fullShare.right) (fun k => k.elim0) ∗ Pipeline.scopedRest cfg0.spec c)
      ⊢ (acct m ρ 0 c).Φ 0 := by
  rw [show (acct m ρ 0 c).Φ 0 = heldBefore m c from rfl, scopedRest0_eq]
  unfold heldBefore scratch sendBufs
  iintro ⟨Hs, -, H0, H1, H2, H3, H4⟩
  isplitl [Hs]; · iexact Hs
  isplitl [H0 H1]
  · isplitl [H0]; · iexact H0
    iexact H1
  isplitl [H2]; · iexact H2
  isplitl [H3]; · iexact H3
  iexact H4

/-- What the body leaves lets the region end. -/
theorem leave_region (c : Dev nD) :
    (acct m ρ 0 c).Φ (Fin.last cfg0.N) ⊢ iprop(unscopedSems0 c ∗ Pipeline.ownSems0 ownSem c ∗ Pipeline.scopedRest cfg0.spec c) := by
  rw [show (acct m ρ 0 c).Φ (Fin.last cfg0.N) = heldAfter (F := F) c from rfl, scopedRest0_eq]
  unfold heldAfter scratch sendBufs
  rw [zeros_eq]
  iintro ⟨⟨⟨H0, H1⟩, H2, H3, H4⟩, HB, HO⟩
  isplitl [HB]; · iexact HB
  isplitl [HO]; · iexact HO
  isplitl [H0]; · iexact H0
  isplitl [H1]; · iexact H1
  isplitl [H2]; · iexact H2
  isplitl [H3]; · iexact H3
  iexact H4

/-- All that is owed ranks above zero. -/
theorem due_rank : ∀ c : Dev nD, ∀ ck ∈ due0 c, 0 < rank ck.2 := by decide

omit [FloatOps F] [Named F] in
/-- The region may wait for its own transfers: nothing a device owes is ranked below them. -/
theorem wait_low (c : Dev nD) (q : DmaSem sig) (hq : idx (.dma q) = none) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨ck, -, rfl⟩ := owed_pos hg; exact Finset.mem_singleton_self _)
      (fun p hp => by rw [Finset.mem_singleton.mp hp]; unfold lv; rw [hq])
      (fun g u hg => by obtain ⟨ck, hm, rfl⟩ := owed_pos hg; rw [lv_kcell]; exact due_rank c ck hm)
  · rw [MayWait_zero]; iintro -; iempintro

/-- The region's own waits rank below all that is owed. -/
theorem may_wait (c : Dev nD) : (levAts L lv : sProp 𝕄) ⊢ Pipeline.cellsWaits cfgs (acct m ρ) () 0 c :=
  Pipeline.cellsWaits_intro cfgs (acct m ρ) () 0 c fun w s t =>
    wait_low c _ (by fin_cases w <;> fin_cases s <;> decide) _ (by
      rcases t with ⟨_ | _, ht⟩
      · exact Or.inl rfl
      · exact Or.inr rfl)

/-- The region holds its arrays whole. -/
theorem whole_share (c : Dev nD) (w : Fin cfg0.W) : (acct m ρ 0 c).share w = fullShare := by unfold Dat.share; split <;> rfl

/-! ## The run -/

/-- What array `w` of device `c` holds at the end. -/
def finalArr (c : Dev nD) (w : Fin cfg0.W) : Buf (Elt F) ((cfg0.win w).arr.view.loc (c : Thread nD τ)) := (acct m ρ 0 c).arrAt w cfg0.N

/-- What a finished run says: every array holds what the account says. -/
def ends : PUnit × MemSt nD τ sig (Elt F) → Prop := fun r =>
  ∀ c : Dev nD, ∀ w : Fin cfg0.W, r.2.mem ((cfg0.win w).arr.view.loc (c : Thread nD τ)) = finalArr m ρ c w

set_option maxRecDepth 8000 in
/-- The program runs on the four devices, from any memory with zero counters and for any float values: it ends, every
    array of every device holds what the account says, and every counter is zero again. -/
theorem run_main : θ_run defs (onTc (τ := τ) (main (F := F))) (launched m ρ) (fun r => ends m ρ r ∧ r.2.sem = fun _ => 0) :=
  Pipeline.θ_run_region_owing_glob_pf (fun p => (cfgs p).toPCfg) (fun p => (cfgs p).toPCfg_adm) (acct m ρ) () cellOf_inj (0 : Fin 1)
    winFacts0.to₀ ownSem_facts (Pipeline.PreFacts.none _) EP defs₀ 𝒱₀ m ρ main
    (hmain := fun _ => rfl)
    (hbody := kernel_obligation m ρ) (hne := fun w => block_pos0 w) (harr := arr_whole0) (hstage := stage_whole0) (hshare := whole_share m ρ)
    (hdistinct := winFacts0.arr_inj)
    (O₀ := O₀) (howed₀ := fun _ => rfl) (howedN := fun _ => rfl)
    (L := L) (lv := lv) (hL := L_of_ne) (hwaits := may_wait m ρ)
    (G := dealt m) (G' := ready m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := open_all m)
    (hA := fun _ _ => rfl) (hpf := fun _ k => k.elim0)
    (X := given m) (Y := fun c => unscopedSems0 c) (Z := fun _ => iprop(emp))
    (hX := enter m ρ) (hin := enter_region m ρ) (hout := leave_region m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they were. -/
theorem final_in (c : Dev nD) (w : Fin cfg0.W) (h : (cfg0.win w).isOut = false) :
    finalArr m ρ c w = m ((cfg0.win w).arr.view.loc (c : Thread nD τ)) := (acct m ρ 0 c).arrAt_in w h _

end Launch

end Cert.Attn

end
-- ==== Proof.Frames.lean ====
/-
# The kernel runs and keeps its inputs

The run, read at the arguments, for the kernel as printed and for its idealization.
-/
module

public import proofs.«01_k».proof.Proof.Launch
public import proofs.«01_k».proof.Defs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Ring (pointsTo_blocks pointsTo_blocks_join pointsTo_blocks_join_exists)

variable {F : FTy → Type} [FloatOps F] [Named F]
local notation "𝕄" => MT nD τ sig Unit (Elt F) ℕ UU ℕ

/-- What a run says of the inputs. -/
theorem ends_inputs {m : (ℓ : Loc nD τ sig) → Buf (Elt F) ℓ} {ρ : Dev nD → PrngReg} {r : PUnit × MemSt nD τ sig (Elt F)} (h : ends m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (final_in m ρ c (0 : Fin 6) rfl), (h c (1 : Fin 6)).trans (final_in m ρ c (1 : Fin 6) rfl), (h c (2 : Fin 6)).trans (final_in m ρ c (2 : Fin 6) rfl),
    (h c (3 : Fin 6)).trans (final_in m ρ c (3 : Fin 6) rfl), (h c (4 : Fin 6)).trans (final_in m ρ c (4 : Fin 6) rfl)⟩

/-- A named constant read at the bits it is printed with. -/
local instance plainNames : Named Bits where
  named _ _ {φ} b := Scalar.ofBits φ b

/-- The two programs have one body. -/
theorem bodies_eq [hKernel : Cert.Kernel.Facts] : Cert.Kernel.defs₀ (F := Bits) = Cert.KernelIdeal.defs₀ (F := Bits) := by
  unfold Cert.Kernel.defs₀ Cert.KernelIdeal.defs₀
  refine congrArg _ ?_
  funext l x
  obtain ⟨_ | n, h⟩ := l
  · obtain ⟨t, s⟩ := x
    rfl
  · exact absurd h (Nat.not_lt.2 (Nat.le_add_left _ _))

/-- The two programs have one table of bodies. -/
theorem tables_eq [hKernel : Cert.Kernel.Facts] : Cert.Kernel.defs (F := Bits) = Cert.KernelIdeal.defs (F := Bits) :=
  congrArg (Pipeline.defs (Cert.KernelIdeal.pcfgs (F := Bits))) bodies_eq

/-- The run of the kernel as printed: the same program, its constant read at its bits. -/
theorem run_plain [hKernel : Cert.Kernel.Facts] (m : (ℓ : Loc nD τ sig) → Buf (Elt Bits) ℓ) (ρ : Dev nD → PrngReg) :
    θ_run (Cert.Kernel.defs (F := Bits)) (onTc (τ := Cert.Kernel.τ) (Cert.Kernel.main (F := Bits))) ⟨m, fun _ => 0, ρ⟩ (fun r => ends m ρ r ∧ r.2.sem = fun _ => 0) :=
  (congrArg (fun d => θ_run d (onTc (τ := Cert.Kernel.τ) (Cert.Kernel.main (F := Bits))) ⟨m, fun _ => 0, ρ⟩ (fun r => ends m ρ r ∧ r.2.sem = fun _ => 0)) tables_eq).mpr
    (run_main (F := Bits) m ρ)

/-- The kernel as printed runs, keeps its inputs and leaves every counter at zero. -/
theorem frame_kernel [hKernel : Cert.Kernel.Facts] : Cert.quiescent_Kernel := fun m ρ _ =>
  (θ_run (Cert.Kernel.defs (F := Bits)) _ _).mono (fun _ h => ⟨fun c => ends_inputs h.1 c, h.2⟩) (run_plain m ρ)

/-- So does its idealization. -/
theorem frame_ideal [hKernelIdeal : Cert.KernelIdeal.Facts] : Cert.quiescent_KernelIdeal := fun m ρ _ =>
  (θ_run (Cert.KernelIdeal.defs (F := Ideal)) _ _).mono (fun _ h => ⟨fun c => ends_inputs h.1 c, h.2⟩) (run_main (F := Ideal) m ρ)

end Cert.Attn

end
-- ==== Proof.Heads.lean ====
/-
# What one head computes

The kernel computes each head by the same operations at different columns. They are written here once, the kernel's
payloads are shown to be them, and each is read at an index over the extended reals.
-/
module

public import proofs.«01_k».proof.Proof.Contents
public import Idealize.ShloMosaic.Lib.Pointwise

@[expose] public section

set_option maxRecDepth 16384

noncomputable section

namespace Cert.Attn

open Cert.KernelIdeal Cert.KernelIdeal.Gen
open Idealize.ShloMosaic
open Idealize.ShloMosaic.TcCoe

/-! ## A row of scores and its weights -/

/-- The weights of a row of scores: the exponentials of the scores less the greatest, divided by their sum. -/
def soft {n : ℕ} (s : Fin n → EReal) (j : Fin n) : EReal :=
  Ideal.div (Ideal.exp (s j - Finset.univ.fold max ⊥ s)) (∑ j', Ideal.exp (s j' - Finset.univ.fold max ⊥ s))

/-- The scores' scale, an eighth. -/
def eighth : EReal := Ideal.ofBits .f32 0x3E000000#32

/-! ## What one head computes -/

/-- Head `h` is columns `64 h` to `64 h + 63` of the queries. -/
theorem qcols (h : Fin 4) : S256x256.Slices ![0, 64 * h.val] S256x64 := by revert h; decide
/-- Head `h` of the keys, or of the values. -/
theorem khead (h : Fin 4) : S256x4x64.Slices ![0, h.val, 0] S256x1x64 := by revert h; decide
/-- Head `h` is rows `64 h` to `64 h + 63` of the output weights. -/
theorem worows (h : Fin 4) : S256x512.Slices ![64 * h.val, 0] S64x512 := by revert h; decide

/-- A head's column is a column of the device's block. -/
theorem col_lt (h : Fin 4) (d : Fin 64) : 64 * h.val + d.val < 256 := by omega

/-- Head `h`'s scores before the mask. -/
def scoreOf (h : Fin 4) (q : FVec Ideal S256x256 .f32) (k : FVec Ideal S256x4x64 .bf16) : FVec Ideal S256x256 .f32 :=
  mulf (matmul dot_S256x64_S256x64_S256x256_1_1_0_0_n_n none
      (truncf .bf16 (extractStridedSlice S256x64 ![0, 64 * h.val] q (qcols h)) bitsLt_bf16_f32)
      (shapeCast S256x64 (extractStridedSlice S256x1x64 ![0, h.val, 0] k (khead h)) shapeCasts_S256x1x64_S256x64)
      (constant S256x256 .f32 0x00000000#32))
    (broadcast S256x256 (Scalar.ofBits .f32 0x3E000000#32))

/-- The scores with minus infinity where the query may not look. -/
def maskedOf (s : FVec Ideal S256x256 .f32) : FVec Ideal S256x256 .f32 :=
  select maskV s (broadcast S256x256 (Named.named κ "mask" 0xCE6E6B28#32))

/-- The exponentials of the masked scores less each row's greatest. -/
def expOf (s : FVec Ideal S256x256 .f32) : FVec Ideal S256x256 .f32 :=
  exp (subf (maskedOf s) (broadcastTo S256x256 (shapeCast S256x1
    (multiReduction .maximumf [1] S256 (maskedOf s) 0xFF800000#32 reduces_S256x256_S256 (.inl rfl) rfl)
      shapeCasts_S256_S256x1) broadcasts_S256x1_S256x256))

/-- The weights that the masked scores give. -/
def weightOf (s : FVec Ideal S256x256 .f32) : FVec Ideal S256x256 .bf16 :=
  truncf .bf16 (divf (expOf s) (broadcastTo S256x256 (shapeCast S256x1
    (multiReduction .add [1] S256 (expOf s) 0x00000000#32 reduces_S256x256_S256 (.inl rfl) rfl)
      shapeCasts_S256_S256x1) broadcasts_S256x1_S256x256)) bitsLt_bf16_f32

/-- Head `h`'s share of the result: the weighted values through the head's rows of the output weights. -/
def headOut (h : Fin 4) (wo : FVec Ideal S256x512 .bf16) (w : FVec Ideal S256x256 .bf16) (v : FVec Ideal S256x4x64 .bf16) :
    FVec Ideal S256x512 .f32 :=
  matmul dot_S256x64_S64x512_S256x512_1_0_0_1_n_n none
    (truncf .bf16 (matmul dot_S256x256_S256x64_S256x64_1_0_0_1_n_n none w
      (shapeCast S256x64 (extractStridedSlice S256x1x64 ![0, h.val, 0] v (khead h)) shapeCasts_S256x1x64_S256x64)
      (constant S256x64 .f32 0x00000000#32)) bitsLt_bf16_f32)
    (extractStridedSlice S64x512 ![64 * h.val, 0] wo (worows h)) (constant S256x512 .f32 0x00000000#32)

/-! ## The kernel's payloads are those -/

section Payloads
variable (wq : Vec Ideal S512x256 .bf16) (x : Vec Ideal S1x256x512 .bf16) (k : Vec Ideal S1x256x4x64 .bf16)

/-! The weights of the eight heads of the two batches are `weightOf` of `scoreOf` at that head. -/

/-- The weights of batch 0, head 0 are the softmax weights of its scores. -/
theorem w00_eq : w00 wq x k = weightOf (scoreOf 0 (q0V wq x) (k0_pay30 k)) := rfl
/-- The weights of batch 0, head 1 are the softmax weights of its scores. -/
theorem w01_eq : w01 wq x k = weightOf (scoreOf 1 (q0V wq x) (k0_pay30 k)) := rfl
/-- The weights of batch 0, head 2 are the softmax weights of its scores. -/
theorem w02_eq : w02 wq x k = weightOf (scoreOf 2 (q0V wq x) (k0_pay30 k)) := rfl
/-- The weights of batch 0, head 3 are the softmax weights of its scores. -/
theorem w03_eq : w03 wq x k = weightOf (scoreOf 3 (q0V wq x) (k0_pay30 k)) := rfl
/-- The weights of batch 1, head 0 are the softmax weights of its scores. -/
theorem w10_eq : w10 wq x k = weightOf (scoreOf 0 (q0V wq x) (k0_pay30 k)) := rfl
/-- The weights of batch 1, head 1 are the softmax weights of its scores. -/
theorem w11_eq : w11 wq x k = weightOf (scoreOf 1 (q0V wq x) (k0_pay30 k)) := rfl
/-- The weights of batch 1, head 2 are the softmax weights of its scores. -/
theorem w12_eq : w12 wq x k = weightOf (scoreOf 2 (q0V wq x) (k0_pay30 k)) := rfl
/-- The weights of batch 1, head 3 are the softmax weights of its scores. -/
theorem w13_eq : w13 wq x k = weightOf (scoreOf 3 (q0V wq x) (k0_pay30 k)) := rfl

end Payloads

/-! ## Their values -/

/-- The block of sixty-four rows a row is in, as the kernel computes it. -/
theorem rowBlock (i j : Fin 256) : k0_pay24 (ix2 i j) = BitVec.ofNat 32 (i.val / 64) := by
  pointwise [k0_pay24]
  revert i
  decide +kernel

/-- The block of sixty-four columns a column is in, likewise. -/
theorem colBlock (i j : Fin 256) :
    select (andi k0_pay26 (cmpi .ne k0_pay27 k0_pay28)) (subi k0_pay25 (broadcast S256x256 1#32)) k0_pay25 (ix2 i j)
      = BitVec.ofNat 32 (j.val / 64) := by
  pointwise [k0_pay25, k0_pay26, k0_pay27, k0_pay28]
  revert j
  decide +kernel

/-- Two numbers below sixteen compare as words as they do as numbers. -/
theorem sle_small : ∀ a b : Fin 16, IntOp.cmpi .sle (BitVec.ofNat 32 a.val) (BitVec.ofNat 32 b.val)
    = BitVec.ofBool (decide (a.val ≤ b.val)) := by
  decide +kernel

/-- A query may look at the keys of its block of sixty-four and of those before. -/
theorem maskV_apply (i j : Fin 256) : maskV (ix2 i j) = BitVec.ofBool (decide (j.val / 64 ≤ i.val / 64)) := by
  show IntOp.cmpi .sle (select (andi k0_pay26 (cmpi .ne k0_pay27 k0_pay28)) (subi k0_pay25 (broadcast S256x256 1#32)) k0_pay25 (ix2 i j))
    (k0_pay24 (ix2 i j)) = _
  rw [rowBlock, colBlock]
  exact sle_small ⟨j.val / 64, by omega⟩ ⟨i.val / 64, by omega⟩

/-- The word of minus infinity is the least extended real. -/
theorem ofBits_least : Ideal.ofBits .f32 0xFF800000#32 = ⊥ := by simp [Ideal.ofBits, Ideal.ieee]

/-- Head `h`'s scores at a query and a key: their product over the head's sixty-four columns, an eighth of it. -/
theorem scoreOf_apply (h : Fin 4) (q : FVec Ideal S256x256 .f32) (k : FVec Ideal S256x4x64 .bf16) (i j : Fin 256) :
    scoreOf h q k (ix2 i j) = (∑ d : Fin 64, q (ix2 i ⟨64 * h.val + d.val, col_lt h d⟩) * k (ix3 j h d)) * eighth := by
  pointwise [scoreOf, eighth]

/-- The masked scores at an index. -/
theorem maskedOf_apply (s : FVec Ideal S256x256 .f32) (i j : Fin 256) :
    maskedOf s (ix2 i j) = if j.val / 64 ≤ i.val / 64 then s (ix2 i j) else ⊥ := by
  pointwise [maskedOf, maskV_apply]
  rfl

/-- The exponentials at an index. -/
theorem expOf_apply (s : FVec Ideal S256x256 .f32) (i j : Fin 256) :
    expOf s (ix2 i j) = Ideal.exp (maskedOf s (ix2 i j) - Finset.univ.fold max ⊥ fun j' => maskedOf s (ix2 i j')) := by
  pointwise [expOf]
  rw [ofBits_least]

/-- The weights are the softmax of the masked row. -/
theorem weightOf_apply (s : FVec Ideal S256x256 .f32) (i j : Fin 256) :
    weightOf s (ix2 i j) = soft (fun j' => maskedOf s (ix2 i j')) j := by
  pointwise [weightOf, expOf_apply]
  rfl

/-- A head's share at an index. -/
theorem headOut_apply (h : Fin 4) (wo : FVec Ideal S256x512 .bf16) (w : FVec Ideal S256x256 .bf16) (v : FVec Ideal S256x4x64 .bf16)
    (i : Fin 256) (n : Fin 512) :
    headOut h wo w v (ix2 i n) = ∑ d : Fin 64, (∑ j : Fin 256, w (ix2 i j) * v (ix3 j h d)) * wo (ix2 ⟨64 * h.val + d.val, col_lt h d⟩ n) := by
  pointwise [headOut]

end Cert.Attn

end
-- ==== Proof.Parts.lean ====
/-
# What the devices add up

A device's part is the sum of its heads' shares, and the result of every device the sum over all devices and heads.
Each share is written out as a plain sum over the extended reals.
-/
module

public import proofs.«01_k».proof.Proof.Heads

@[expose] public section

set_option maxRecDepth 16384

noncomputable section

namespace Cert.Attn

open Cert.KernelIdeal Cert.KernelIdeal.Gen
open Idealize.ShloMosaic
open Idealize.ShloMosaic.TcCoe

/-! ## A device's part -/

/-- A device's part of one batch: its four heads' shares, added one after the other. -/
def partOf (wo : FVec Ideal S256x512 .bf16) (q : FVec Ideal S256x256 .f32) (k v : FVec Ideal S256x4x64 .bf16) : FVec Ideal S1x1x256x512 .bf16 :=
  shapeCast S1x1x256x512 (truncf .bf16
    (addf (addf (addf (addf (broadcast S256x512 (Scalar.ofBits .f32 0x00000000#32))
      (headOut 0 wo (weightOf (scoreOf 0 q k)) v)) (headOut 1 wo (weightOf (scoreOf 1 q k)) v))
      (headOut 2 wo (weightOf (scoreOf 2 q k)) v)) (headOut 3 wo (weightOf (scoreOf 3 q k)) v)) bitsLt_bf16_f32)
    shapeCasts_S256x512_S1x1x256x512

section Parts
variable (wq : Vec Ideal S512x256 .bf16) (wo : Vec Ideal S256x512 .bf16) (x : Vec Ideal S1x256x512 .bf16) (k v : Vec Ideal S1x256x4x64 .bf16)

/-- Batch 0's part is that. -/
theorem part0_eq : part0 wq wo x k v = partOf (k0_pay20 wo) (q0V wq x) (k0_pay30 k) (k0_pay30 v) := rfl
/-- Batch 1's part is that. -/
theorem part1_eq : part1 wq wo x k v = partOf (k0_pay20 wo) (q0V wq x) (k0_pay30 k) (k0_pay30 v) := rfl

/-- The queries at an index. -/
theorem q0V_apply (i e : Fin 256) : q0V wq x (ix2 i e) = ∑ t : Fin 512, x (ix3 0 i t) * wq (ix2 t e) := by
  pointwise [q0V, k0_pay21, k0_pay19]

/-- The output weights are loaded whole. -/
theorem wo_apply (e : Fin 256) (n : Fin 512) : k0_pay20 wo (ix2 e n) = wo (ix2 e n) := by
  pointwise [k0_pay20]

/-- The keys of one batch, without the batch's axis. -/
theorem kv_apply (j : Fin 256) (h : Fin 4) (d : Fin 64) : k0_pay30 k (ix3 j h d) = k (ix4 0 j h d) := by
  pointwise [k0_pay30]

end Parts

/-- The part at an index: the sum over the heads. -/
theorem partOf_apply (wo : FVec Ideal S256x512 .bf16) (q : FVec Ideal S256x256 .f32) (k v : FVec Ideal S256x4x64 .bf16)
    (i : Fin 256) (n : Fin 512) :
    partOf wo q k v (ix4 0 0 i n) = ∑ h : Fin 4, headOut h wo (weightOf (scoreOf h q k)) v (ix2 i n) := by
  pointwise [partOf, Fin.sum_univ_four]

/-- What every device adds up for batch 0. -/
theorem pay51_apply (a b c d : Vec Ideal S1x1x256x512 .bf16) (i : Fin 256) (n : Fin 512) :
    k0_pay51 a b c d (ix3 0 i n) = (a (ix4 0 0 i n) + b (ix4 0 0 i n)) + (c (ix4 0 0 i n) + d (ix4 0 0 i n)) := by
  pointwise [k0_pay51]

/-- What every device adds up for batch 1. -/
theorem pay53_apply (a b c d : Vec Ideal S1x1x256x512 .bf16) (i : Fin 256) (n : Fin 512) :
    k0_pay53 (k0_pay52 a b) c d (ix3 0 i n) = (a (ix4 0 0 i n) + b (ix4 0 0 i n)) + (c (ix4 0 0 i n) + d (ix4 0 0 i n)) := by
  pointwise [k0_pay53, k0_pay52]

/-! ## The loads -/

variable (m : (ℓ : Loc nD τ sig) → Buf (Elt Ideal) ℓ)

/-- A load of batch `b` of the inputs. -/
theorem ldx_apply (b : Fin 2) (inb) (X : Vec Ideal S2x256x512 .bf16) (i : Fin 256) (t : Fin 512) :
    ldx b.val inb X (ix3 0 i t) = X (ix3 b i t) := by
  refine congrArg X (funext fun a => Fin.ext ?_)
  match a with
  | ⟨0, _⟩ => show b.val + 1 * 0 = b.val; omega
  | ⟨1, _⟩ => show 0 + 1 * i.val = i.val; omega
  | ⟨2, _⟩ => show 0 + 1 * t.val = t.val; omega

/-- A load of batch `b` of the keys or of the values. -/
theorem ldk_apply (b : Fin 2) (inb) (X : Vec Ideal S2x256x4x64 .bf16) (j : Fin 256) (h : Fin 4) (d : Fin 64) :
    ldk b.val inb X (ix4 0 j h d) = X (ix4 b j h d) := by
  refine congrArg X (funext fun a => Fin.ext ?_)
  match a with
  | ⟨0, _⟩ => show b.val + 1 * 0 = b.val; omega
  | ⟨1, _⟩ => show 0 + 1 * j.val = j.val; omega
  | ⟨2, _⟩ => show 0 + 1 * h.val = h.val; omega
  | ⟨3, _⟩ => show 0 + 1 * d.val = d.val; omega

/-- Device `c`'s keys are its four heads of device 0's. -/
theorem kdata_apply (c : Dev nD) (b : Fin 2) (j : Fin 256) (h : Fin 4) (d : Fin 64) :
    kdata m c (ix4 b j h d) = ks m 0 (ix4 b j ⟨4 * c.val + h.val, head_lt c h⟩ d) := by
  unfold kdata headsOf
  rw [ix4_eq_valueIdx, ix4_eq_valueIdx]
/-- Device `c`'s values likewise. -/
theorem vdata_apply (c : Dev nD) (b : Fin 2) (j : Fin 256) (h : Fin 4) (d : Fin 64) :
    vdata m c (ix4 b j h d) = vs m 0 (ix4 b j ⟨4 * c.val + h.val, head_lt c h⟩ d) := by
  unfold vdata headsOf
  rw [ix4_eq_valueIdx, ix4_eq_valueIdx]

/-! ## Plain sums -/

/-- Query `i`'s entry in column `e` of device `c`'s block. -/
def qval (c : Dev nD) (b : Fin 2) (i e : Fin 256) : EReal := ∑ t : Fin 512, xs m c (ix3 b i t) * wqs m c (ix2 t e)

/-- The masked scores of query `i` in head `h` of device `c`. -/
def srow (c : Dev nD) (b : Fin 2) (h : Fin 4) (i j : Fin 256) : EReal :=
  if j.val / 64 ≤ i.val / 64 then
    (∑ d : Fin 64, qval m c b i ⟨64 * h.val + d.val, col_lt h d⟩ * ks m 0 (ix4 b j ⟨4 * c.val + h.val, head_lt c h⟩ d)) * eighth
  else ⊥

/-- What head `h` of device `c` adds to the result. -/
def share (c : Dev nD) (b : Fin 2) (h : Fin 4) (i : Fin 256) (n : Fin 512) : EReal :=
  ∑ d : Fin 64, (∑ j : Fin 256, soft (srow m c b h i) j * vs m 0 (ix4 b j ⟨4 * c.val + h.val, head_lt c h⟩ d))
    * wos m c (ix2 ⟨64 * h.val + d.val, col_lt h d⟩ n)

/-- A device's part of batch `b` is the sum of its heads' shares. -/
theorem part_value (c : Dev nD) (b : Fin 2) (hx hk) (i : Fin 256) (n : Fin 512) :
    partOf (k0_pay20 (wos m c)) (q0V (wqs m c) (ldx b.val hx (xs m c))) (k0_pay30 (ldk b.val hk (kdata m c)))
      (k0_pay30 (ldk b.val hk (vdata m c))) (ix4 0 0 i n) = ∑ h : Fin 4, share m c b h i n := by
  rw [partOf_apply]
  refine Finset.sum_congr rfl fun h _ => ?_
  simp only [headOut_apply, weightOf_apply, maskedOf_apply, scoreOf_apply, q0V_apply, wo_apply, kv_apply, ldx_apply,
    ldk_apply, kdata_apply, vdata_apply]
  rfl

/-- A device's part of batch 0. -/
theorem p0_value (c : Dev nD) (i : Fin 256) (n : Fin 512) : p0 m c (ix4 0 0 i n) = ∑ h : Fin 4, share m c 0 h i n :=
  (congrFun (part0_eq ..) _).trans (part_value m c 0 _ _ i n)
/-- A device's part of batch 1. -/
theorem p1_value (c : Dev nD) (i : Fin 256) (n : Fin 512) : p1 m c (ix4 0 0 i n) = ∑ h : Fin 4, share m c 1 h i n :=
  (congrFun (part1_eq ..) _).trans (part_value m c 1 _ _ i n)

/-- The four devices in the order in which device `c` adds them. -/
theorem around (f : Dev nD → EReal) (c : Dev nD) : (f (c - 1) + f (c - 2)) + (f (c - 3) + f c) = ∑ c' : Dev nD, f c' := by
  have h : ∀ c : Dev nD, (f (c - 1) + f (c - 2)) + (f (c - 3) + f c) = (f 0 + f 1) + (f 2 + f 3) := by
    intro c
    match c with
    | ⟨0, _⟩ => show (f 3 + f 2) + (f 1 + f 0) = _; ac_rfl
    | ⟨1, _⟩ => show (f 0 + f 3) + (f 2 + f 1) = _; ac_rfl
    | ⟨2, _⟩ => show (f 1 + f 0) + (f 3 + f 2) = _; ac_rfl
    | ⟨3, _⟩ => show (f 2 + f 1) + (f 0 + f 3) = _; ac_rfl
  rw [h, show (∑ c' : Dev nD, f c') = ∑ c' : Fin 4, f c' from rfl, Fin.sum_univ_four]
  ac_rfl

/-- Batch 0 of the output. -/
theorem outP_zero (c : Dev nD) (i : Fin 256) (n : Fin 512) :
    outP m c (ix3 0 i n) = k0_pay51 (p0 m (c - 1)) (p0 m (c - 2)) (p0 m (c - 3)) (p0 m c) (ix3 0 i n) := by
  have h : ∀ p q : EReal, (if ((ix3 (0 : Fin 2) i n) 0).val = 1 then p else q) = q := fun p q => if_neg Nat.zero_ne_one
  exact h _ _

/-- Batch 1 of the output. -/
theorem outP_one (c : Dev nD) (i : Fin 256) (n : Fin 512) :
    outP m c (ix3 1 i n) = k0_pay53 (k0_pay52 (p1 m (c - 1)) (p1 m (c - 2))) (p1 m (c - 3)) (p1 m c) (ix3 0 i n) := by
  have h : ∀ p q : EReal, (if ((ix3 (1 : Fin 2) i n) 0).val = 1 then p else q) = p := fun p q => if_pos rfl
  exact h _ _

/-- Every device ends with the sum of all heads' shares. -/
theorem outP_value (c : Dev nD) (b : Fin 2) (i : Fin 256) (n : Fin 512) :
    outP m c (ix3 b i n) = ∑ c' : Dev nD, ∑ h : Fin 4, share m c' b h i n := by
  match b with
  | ⟨0, _⟩ =>
    refine (outP_zero m c i n).trans ?_
    rw [pay51_apply, p0_value, p0_value, p0_value, p0_value]
    exact around (fun c' => ∑ h : Fin 4, share m c' 0 h i n) c
  | ⟨1, _⟩ =>
    refine (outP_one m c i n).trans ?_
    rw [pay53_apply, p1_value, p1_value, p1_value, p1_value]
    exact around (fun c' => ∑ h : Fin 4, share m c' 1 h i n) c

end Cert.Attn

end
-- ==== Proof.Plain.lean ====
/-
# The reference at an index

The reference's result, read at an index: the softmax of each masked row of scores, over all the keys, weighting the
values, times the output weights. The pieces below are the reference's own operations, grouped.
-/
module

public import proofs.«01_k».proof.Proof.Heads
public import proofs.«01_k».proof.Proof.Gen.ReferenceIdeal.Run
public import Idealize.ShloMosaic.Lib.Routing.OpsOrder

@[expose] public section

set_option maxRecDepth 16384

noncomputable section

namespace Cert.Attn

open Cert.ReferenceIdeal Cert.ReferenceIdeal.Gen
open Idealize.ShloMosaic
open Idealize.ShloMosaic.TcCoe

/-! ## The reference's pieces -/

/-- The block of sixty-four that a position is in, counted as the reference counts it (`n` positions). -/
def blockNo (n : ℕ) (hb : S_.BroadcastsInDim ⟨1, ![n]⟩ (![] : Fin 0 → Fin 1)) : (⟨1, ![n]⟩ : Shape).Idx → BitVec 32 :=
  select (andi (cmpi .ne (signi (iotaInDim ⟨1, ![n]⟩ 32 0)) (broadcastInDim ⟨1, ![n]⟩ ![] hb (signi (id (constantI S_ 32 64#32)))))
      (cmpi .ne (Host.remsi (iotaInDim ⟨1, ![n]⟩ 32 0) (broadcastInDim ⟨1, ![n]⟩ ![] hb (id (constantI S_ 32 64#32))))
        (broadcastInDim ⟨1, ![n]⟩ ![] hb (constantI S_ 32 0#32))))
    (subi (Host.divsi (iotaInDim ⟨1, ![n]⟩ 32 0) (broadcastInDim ⟨1, ![n]⟩ ![] hb (id (constantI S_ 32 64#32))))
      (broadcastInDim ⟨1, ![n]⟩ ![] hb (constantI S_ 32 1#32)))
    (Host.divsi (iotaInDim ⟨1, ![n]⟩ 32 0) (broadcastInDim ⟨1, ![n]⟩ ![] hb (id (constantI S_ 32 64#32))))

/-- Which keys each query may look at. -/
def refMask : S256x1024.Idx → BitVec 1 :=
  cmpi .sle
    (broadcastInDim S256x1024 ![0, 1] bcast_S1x1024_S256x1024_0_1 (broadcastInDim S1x1024 ![1] bcast_S1024_S1x1024_1 (blockNo 1024 bcast_S_S1024)))
    (broadcastInDim S256x1024 ![0, 1] bcast_S256x1_S256x1024_0_1 (broadcastInDim S256x1 ![0] bcast_S256_S256x1_0 (blockNo 256 bcast_S_S256)))

/-- Whether a query may look at any key, as an array of one entry per query. -/
def refKeep : S1x1x256x1.Idx → BitVec 1 :=
  broadcastInDim S1x1x256x1 ![2] bcast_S256_S1x1x256x1_2
    (Host.reduce IntOp.ori refMask (constantI S_ 1 0#1) reducesTo_S256x1024_S256_d1 h_S_)

/-- The masked scores. -/
def refScores (x : FVec Ideal S2x256x512 .bf16) (wq : FVec Ideal S512x1024 .bf16) (k : FVec Ideal S2x1024x16x64 .bf16) : FVec Ideal S2x16x256x1024 .f32 :=
  select (broadcastInDim S2x16x256x1024 ![0, 1, 2, 3] bcast_S1x1x256x1024_S2x16x256x1024_0_1_2_3
      (broadcastInDim S1x1x256x1024 ![2, 3] bcast_S256x1024_S1x1x256x1024_2_3 refMask))
    (mulf (extf .f32 (truncf .bf16 (Host.dotGeneral dot_S2x256x16x64_S2x1024x16x64_S2x16x256x1024_3_3_1_1_02_02 none
        (shapeCast _ (truncf .bf16 (Host.dotGeneral dot_S2x256x512_S512x1024_S2x256x1024_2_0_01_1_n_n none x wq) bitsLt_bf16_f32)
          shapeCasts_S2x256x1024_S2x256x16x64) k) bitsLt_bf16_f32) bitsLt_bf16_f32)
      (broadcastInDim S2x16x256x1024 ![] bcast_S_S2x16x256x1024 (constant S_ .f32 0x3E000000#32)))
    (broadcastInDim S2x16x256x1024 ![] bcast_S_S2x16x256x1024 (id (constant S_ .f32 0xFF800000#32)))

/-- The exponentials of the distances to each row's greatest score. -/
def refExp (s : FVec Ideal S2x16x256x1024 .f32) : FVec Ideal S2x16x256x1024 .f32 :=
  Host.exp (subf s (broadcastInDim S2x16x256x1024 ![0, 1, 2, 3] bcast_S2x16x256x1_S2x16x256x1024_0_1_2_3
    (broadcastInDim S2x16x256x1 ![0, 1, 2] bcast_S2x16x256_S2x16x256x1_0_1_2
      (Host.reduce FloatOps.maximumf s (constant S_ .f32 0xFF800000#32) reducesTo_S2x16x256x1024_S2x16x256_d3 h_S_))))

/-- The weights. -/
def refWeights (s : FVec Ideal S2x16x256x1024 .f32) : FVec Ideal S2x16x256x1024 .f32 :=
  select (broadcastInDim S2x16x256x1024 ![0, 1, 2, 3] bcast_S1x1x256x1_S2x16x256x1024_0_1_2_3 refKeep)
    (Host.divf (refExp s) (broadcastInDim S2x16x256x1024 ![0, 1, 2, 3] bcast_S2x16x256x1_S2x16x256x1024_0_1_2_3
      (select (broadcastInDim S2x16x256x1 ![0, 1, 2, 3] bcast_S1x1x256x1_S2x16x256x1_0_1_2_3 refKeep)
        (broadcastInDim S2x16x256x1 ![0, 1, 2] bcast_S2x16x256_S2x16x256x1_0_1_2
          (Host.reduceAdd (refExp s) (constant S_ .f32 0x00000000#32) reducesTo_S2x16x256x1024_S2x16x256_d3 h_S_))
        (broadcastInDim S2x16x256x1 ![] bcast_S_S2x16x256x1 (id (constant S_ .f32 0x3F800000#32))))))
    (broadcastInDim S2x16x256x1024 ![] bcast_S_S2x16x256x1024 (id (constant S_ .f32 0x00000000#32)))

/-- The values weighted and multiplied by the output weights. -/
def refOut (w : FVec Ideal S2x16x256x1024 .f32) (v : FVec Ideal S2x1024x16x64 .bf16) (wo : FVec Ideal S1024x512 .bf16) : FVec Ideal S2x256x512 .f32 :=
  Host.dotGeneral dot_S2x256x1024_S1024x512_S2x256x512_2_0_01_1_n_n none
    (shapeCast _ (transpose S2x256x16x64 [0, 3, 1, 2]
      (Host.dotGeneral dot_S2x1024x16x64_S2x16x256x1024_S2x16x64x256_1_3_3_2_02_01 none (extf .f32 v bitsLt_bf16_f32) w)
      transposes_S2x16x64x256_S2x256x16x64_0_3_1_2) shapeCasts_S2x256x16x64_S2x256x1024) (extf .f32 wo bitsLt_bf16_f32)

/-- The reference's result is made of those pieces. -/
theorem reference_eq (m : (ℓ : Loc nD τ sig) → Buf (Elt Ideal) ℓ) (c : Dev nD) :
    Value.res_main_v38 m c = refOut (refWeights (refScores (m ((c.tc : Thread nD τ).loc main_arg0)) (m ((c.tc : Thread nD τ).loc main_arg1))
      (m ((c.tc : Thread nD τ).loc main_arg2)))) (m ((c.tc : Thread nD τ).loc main_arg3)) (m ((c.tc : Thread nD τ).loc main_arg4)) := rfl

/-! ## The mask -/

/-- Dividing a position below 1024 by 64, towards minus infinity, on words. -/
theorem div_small : ∀ j : Fin 1024, Scalar.select
      (IntOp.andi
        (IntOp.cmpi CmpIPredicate.ne
          (if BitVec.ofNat 32 j.val = 0 then (0 : BitVec 32) else if (BitVec.ofNat 32 j.val).msb = true then -1 else 1)
          (if 64#32 = 0 then (0 : BitVec 32) else if (64#32).msb = true then -1 else 1))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  decide +kernel

/-- A key's block. -/
theorem blockNo_keys (j : Fin 1024) : blockNo 1024 bcast_S_S1024 (ix1 j) = BitVec.ofNat 32 (j.val / 64) := by
  pointwise [blockNo]
  exact div_small j

/-- A query's block. -/
theorem blockNo_queries (i : Fin 256) : blockNo 256 bcast_S_S256 (ix1 i) = BitVec.ofNat 32 (i.val / 64) := by
  pointwise [blockNo]
  exact div_small ⟨i.val, by omega⟩

/-- A query may look at the keys of its block of sixty-four and of those before. -/
theorem refMask_apply (i : Fin 256) (j : Fin 1024) : refMask (ix2 i j) = BitVec.ofBool (decide (j.val / 64 ≤ i.val / 64)) := by
  pointwise [refMask, blockNo_keys, blockNo_queries]
  exact sle_small ⟨j.val / 64, by omega⟩ ⟨i.val / 64, by omega⟩

/-- Every query may look at the first key. -/
theorem refKeep_apply (i : Fin 256) : refKeep (ix4 0 0 i 0) = 1#1 := by
  pointwise [refKeep, refMask_apply]
  exact (Idealize.ShloMosaic.Routing.fold_ori _ _).2 ⟨0, Finset.mem_univ _, by simp⟩

/-! ## The reference at an index -/

/-- The masked scores at an index. -/
theorem refScores_apply (x : FVec Ideal S2x256x512 .bf16) (wq : FVec Ideal S512x1024 .bf16) (k : FVec Ideal S2x1024x16x64 .bf16)
    (b : Fin 2) (h : Fin 16) (i : Fin 256) (j : Fin 1024) :
    refScores x wq k (ix4 b h i j) = if j.val / 64 ≤ i.val / 64 then
      (∑ d : Fin 64, (∑ t : Fin 512, x (ix3 b i t) * wq (ix2 t ⟨64 * h.val + d.val, by omega⟩)) * k (ix4 b j h d)) * eighth else ⊥ := by
  pointwise [refScores, refMask_apply, eighth]
  refine if_congr Iff.rfl ?_ ofBits_least
  simp only [Nat.mul_comm h.val 64]

/-- The exponentials at an index. -/
theorem refExp_apply (s : FVec Ideal S2x16x256x1024 .f32) (b : Fin 2) (h : Fin 16) (i : Fin 256) (j : Fin 1024) :
    refExp s (ix4 b h i j) = Ideal.exp (s (ix4 b h i j) - Finset.univ.fold max ⊥ fun j' => s (ix4 b h i j')) := by
  pointwise [refExp]
  rw [ofBits_least]

/-- The weights are the softmax of the masked row. -/
theorem refWeights_apply (s : FVec Ideal S2x16x256x1024 .f32) (b : Fin 2) (h : Fin 16) (i : Fin 256) (j : Fin 1024) :
    refWeights s (ix4 b h i j) = soft (fun j' => s (ix4 b h i j')) j := by
  pointwise [refWeights, refExp_apply, refKeep_apply]
  rfl

/-- The result at an index. -/
theorem refOut_apply (w : FVec Ideal S2x16x256x1024 .f32) (v : FVec Ideal S2x1024x16x64 .bf16) (wo : FVec Ideal S1024x512 .bf16)
    (b : Fin 2) (i : Fin 256) (n : Fin 512) :
    refOut w v wo (ix3 b i n) = ∑ e : Fin 1024, (∑ j : Fin 1024, w (ix4 b ⟨e.val / 64, by omega⟩ i j) * v (ix4 b j ⟨e.val / 64, by omega⟩ ⟨e.val % 64, by omega⟩)) * wo (ix2 e n) := by
  pointwise [refOut]
  simp only [mul_comm (v _)]

end Cert.Attn

end
-- ==== Proof.Softmax.lean ====
/-
# Softmax over masked rows

Facts about sums, maxima and exponentials of extended reals: a row of scores that is masked from some place on has the
softmax of the row cut there.
-/
module

public import proofs.«01_k».proof.Proof.Heads

@[expose] public section

set_option maxRecDepth 16384

noncomputable section

namespace Cert.Attn

open Cert.KernelIdeal Cert.KernelIdeal.Gen
open Idealize.ShloMosaic
open Idealize.ShloMosaic.TcCoe

/-! ## Real numbers among the extended reals -/

/-- An extended real that is a real number. -/
def IsReal (a : EReal) : Prop := ∃ r : ℝ, a = r

/-- A product of real numbers is one. -/
theorem IsReal.mul {a b : EReal} : IsReal a → IsReal b → IsReal (a * b)
  | ⟨r, hr⟩, ⟨s, hs⟩ => ⟨r * s, by rw [hr, hs, EReal.coe_mul]⟩

/-- A sum of real numbers is one. -/
theorem IsReal.sum {ι : Type} [Fintype ι] {f : ι → EReal} (hf : ∀ i, IsReal (f i)) : IsReal (∑ i, f i) :=
  Finset.sum_induction f IsReal (fun _ _ ⟨r, hr⟩ ⟨s, hs⟩ => ⟨r + s, by rw [hr, hs, EReal.coe_add]⟩) ⟨0, rfl⟩ fun i _ => hf i

/-- What is strictly between the infinities is a real number. -/
theorem isReal_of_abs {a : EReal} (h : max a (-a) < ⊤) : IsReal a := by
  induction a using EReal.rec with
  | bot => simp at h
  | top => simp at h
  | coe r => exact ⟨r, rfl⟩

/-- An eighth is a real number. -/
theorem eighth_real : IsReal eighth := by
  refine ⟨1 / 8, ?_⟩
  simp [eighth, Ideal.ofBits, Ideal.ieee]
  rw [← EReal.coe_mul]
  norm_num

/-! ## Masked keys weigh nothing -/

/-- An exponential is not negative. -/
theorem exp_nonneg (a : EReal) : 0 ≤ Ideal.exp a := by
  induction a using EReal.rec with
  | bot => simp
  | top => simp
  | coe r => rw [Ideal.exp_coe]; exact_mod_cast (Real.exp_pos r).le

/-- The sum of the exponentials of a row's distances to its greatest entry is not zero, if no entry is infinite from above
    and one is a real number. -/
theorem sum_exp_ne_zero {n : ℕ} (s : Fin n → EReal) (htop : ∀ j, s j ≠ ⊤) (j₀ : Fin n) (h₀ : s j₀ ≠ ⊥) :
    (∑ j, Ideal.exp (s j - Finset.univ.fold max ⊥ s)) ≠ 0 := by
  obtain ⟨j, -, hj⟩ := Finset.exists_mem_eq_sup Finset.univ ⟨j₀, Finset.mem_univ _⟩ s
  have hM : Finset.univ.fold max ⊥ s = s j := hj
  have hbot : s j ≠ ⊥ := fun e => h₀ (le_bot_iff.1 (e ▸ hj ▸ Finset.le_sup (Finset.mem_univ j₀)))
  have hone : Ideal.exp (s j - Finset.univ.fold max ⊥ s) = 1 := by
    rw [hM, EReal.sub_self (htop j) hbot]
    rw [← EReal.coe_zero, Ideal.exp_coe, Real.exp_zero, EReal.coe_one]
  have hle : Ideal.exp (s j - Finset.univ.fold max ⊥ s) ≤ ∑ j, Ideal.exp (s j - Finset.univ.fold max ⊥ s) :=
    Finset.single_le_sum (f := fun j => Ideal.exp (s j - Finset.univ.fold max ⊥ s)) (fun j _ => exp_nonneg _) (Finset.mem_univ j)
  rw [hone] at hle
  exact fun e => absurd (e ▸ hle) (by norm_num)

/-- A softmax over more entries, all masked, weighs the same: the masked entries count for nothing. -/
theorem soft_cut {n k : ℕ} (s : Fin (n + k) → EReal) (hm : ∀ j : Fin k, s (Fin.natAdd n j) = ⊥)
    (htop : ∀ j : Fin n, s (Fin.castAdd k j) ≠ ⊤) (j₀ : Fin n) (h₀ : s (Fin.castAdd k j₀) ≠ ⊥) (v : Fin (n + k) → EReal) :
    (∑ j, soft s j * v j) = ∑ j : Fin n, soft (fun j => s (Fin.castAdd k j)) j * v (Fin.castAdd k j) := by
  have hmax : Finset.univ.fold max ⊥ s = Finset.univ.fold max ⊥ fun j : Fin n => s (Fin.castAdd k j) := by
    refine le_antisymm ?_ ?_
    · refine (Finset.sup_le (s := Finset.univ) (f := s) fun j _ => ?_ : Finset.univ.sup s ≤ _)
      refine Fin.addCases (fun j => ?_) (fun j => ?_) j
      · exact Finset.le_sup (f := fun j : Fin n => s (Fin.castAdd k j)) (Finset.mem_univ j)
      · rw [hm]; exact bot_le
    · exact (Finset.sup_le (s := Finset.univ) (f := fun j : Fin n => s (Fin.castAdd k j)) fun j _ => Finset.le_sup (f := s) (Finset.mem_univ _))
  have hsum : (∑ j, Ideal.exp (s j - Finset.univ.fold max ⊥ s))
      = ∑ j : Fin n, Ideal.exp (s (Fin.castAdd k j) - Finset.univ.fold max ⊥ fun j : Fin n => s (Fin.castAdd k j)) := by
    rw [Fin.sum_univ_add, hmax]
    rw [Finset.sum_eq_zero (s := Finset.univ (α := Fin k)), add_zero]
    intro j _
    rw [hm, EReal.bot_sub, Ideal.exp_bot]
  have hne := sum_exp_ne_zero (fun j : Fin n => s (Fin.castAdd k j)) htop j₀ h₀
  rw [Fin.sum_univ_add]
  rw [Finset.sum_eq_zero (s := Finset.univ (α := Fin k)), add_zero]
  · refine Finset.sum_congr rfl fun j _ => ?_
    unfold soft
    rw [hsum, hmax]
  · intro j _
    unfold soft
    rw [hsum, hm, EReal.bot_sub, Ideal.exp_bot, Ideal.div, if_neg hne, zero_mul, zero_mul]

/-! ## Sums over columns by groups -/

/-- A sum over `m * n` places, by `m` groups of `n`. -/
theorem sum_groups (m n : ℕ) (f : Fin (m * n) → EReal) :
    (∑ e, f e) = ∑ a : Fin m, ∑ b : Fin n, f (finProdFinEquiv (a, b)) :=
  (Fintype.sum_equiv finProdFinEquiv (fun p => f (finProdFinEquiv p)) f fun _ => rfl).symm.trans
    (Fintype.sum_prod_type fun p : Fin m × Fin n => f (finProdFinEquiv p))

end Cert.Attn

end
-- ==== Proof.Given.lean ====
/-
# What the precondition says

The activations, the query weights and the keys are real numbers.
-/
module

public import proofs.«01_k».proof.Proof.Softmax
public import proofs.«01_k».proof.Pre_finite_KernelIdeal
public import proofs.«01_k».proof.Pre_finite_ReferenceIdeal
public import Idealize.ShloMosaic.Lib.ReduceAll

@[expose] public section

set_option maxRecDepth 16384

noncomputable section

namespace Cert.Attn

open Cert.KernelIdeal Cert.KernelIdeal.Gen
open Idealize.ShloMosaic
open Idealize.ShloMosaic.TcCoe

/-! ## What the precondition says -/

/-- The precondition's side conditions hold. -/
theorem given_facts : Cert.Pre_finite_KernelIdeal.Facts := by constructor <;> decide

/-- The same, of the predicate over the whole arrays. -/
theorem given_facts_whole : Cert.Pre_finite_ReferenceIdeal.Facts := by constructor <;> decide

/-- Two bits that are 1 together are 1 each. -/
theorem both_one : ∀ a b : BitVec 1, IntOp.andi a b = 1#1 → a = 1#1 ∧ b = 1#1 := by decide

/-- The word of plus infinity is the greatest extended real. -/
theorem ofBits_greatest : Ideal.ofBits .f32 0x7F800000#32 = ⊤ := by simp [Ideal.ofBits, Ideal.ieee]

/-- An entry whose size compares below infinity is a real number. -/
theorem isReal_of_cmp (a : EReal) (h : Ideal.cmp .olt (max a (-a)) (Ideal.ofBits .f32 0x7F800000#32) = 1#1) : IsReal a := by
  rw [ofBits_greatest] at h
  refine isReal_of_abs ?_
  by_contra hn
  simp [Ideal.cmp, hn] at h

/-- Activations, query weights and keys that meet the precondition are real numbers. -/
theorem given_real [Cert.Pre_finite_KernelIdeal.Facts] (x : FVec Ideal S2x256x512 .bf16) (wq : FVec Ideal S512x256 .bf16)
    (k v : FVec Ideal S2x256x16x64 .bf16) (wo : FVec Ideal S256x512 .bf16)
    (h : Cert.Pre_finite_KernelIdeal.fn (F := Ideal) x wq k v wo = fun _ => 1#1) :
    (∀ i, IsReal (x i)) ∧ (∀ i, IsReal (wq i)) ∧ ∀ i, IsReal (k i) := by
  have h0 := congrFun h ix0
  dsimp only [Cert.Pre_finite_KernelIdeal.fn] at h0
  obtain ⟨h1, hk⟩ := both_one _ _ h0
  obtain ⟨hx, hq⟩ := both_one _ _ h1
  exact ⟨fun i => isReal_of_cmp _ (Host.reduce_andi_all _ _ _ _ _ hx i), fun i => isReal_of_cmp _ (Host.reduce_andi_all _ _ _ _ _ hq i),
    fun i => isReal_of_cmp _ (Host.reduce_andi_all _ _ _ _ _ hk i)⟩

end Cert.Attn

end
-- ==== Proof.Agree.lean ====
/-
# The kernel's shares are the reference's

Head h of device c is head 4 c + h of the reference. The reference's keys beyond the first 256 are masked for every
query, so they weigh nothing, and the shares agree.
-/
module

public import proofs.«01_k».proof.Proof.Parts
public import proofs.«01_k».proof.Proof.Plain
public import proofs.«01_k».proof.Proof.Given
public import Idealize.ShloMosaic.Lib.Layout

@[expose] public section

set_option maxRecDepth 16384

noncomputable section

namespace Cert.Attn

open Cert.KernelIdeal Cert.KernelIdeal.Gen
open Idealize.ShloMosaic
open Idealize.ShloMosaic.TcCoe

/-! ## Blocks of the whole arrays at an index -/

/-- A device's columns of the query weights. -/
theorem wq_block (c : Dev nD) (W : FVec Ideal ⟨2, ![512, 1024]⟩ .bf16) (t : Fin 512) (e : Fin 256) (he : 256 * c.val + e.val < 1024) :
    Layout.block ⟨2, ![512, 256]⟩ ⟨2, ![512, 1024]⟩ 1 4 c W (by decide) (ix2 t e) = W (ix2 t ⟨256 * c.val + e.val, he⟩) := by
  refine congrArg W (funext fun a => Fin.ext ?_)
  match a with
  | ⟨0, _⟩ => rfl
  | ⟨1, _⟩ => show c.val * 256 + e.val = 256 * c.val + e.val; omega

/-- Device 0's block of the keys, or of the values. -/
theorem kv_block (K : FVec Ideal ⟨4, ![2, 1024, 16, 64]⟩ .bf16) (b : Fin 2) (j : Fin 256) (h : Fin 16) (d : Fin 64) :
    Layout.block ⟨4, ![2, 256, 16, 64]⟩ ⟨4, ![2, 1024, 16, 64]⟩ 1 4 (0 : Dev nD) K (by decide) (ix4 b j h d)
      = K (ix4 b (Fin.castAdd 768 j) h d) := by
  refine congrArg K (funext fun a => Fin.ext ?_)
  match a with
  | ⟨0, _⟩ => rfl
  | ⟨1, _⟩ => show 0 * 256 + j.val = j.val; omega
  | ⟨2, _⟩ => rfl
  | ⟨3, _⟩ => rfl

/-- A device's rows of the output weights. -/
theorem wo_block (c : Dev nD) (W : FVec Ideal ⟨2, ![1024, 512]⟩ .bf16) (e : Fin 256) (n : Fin 512) (he : 256 * c.val + e.val < 1024) :
    Layout.block ⟨2, ![256, 512]⟩ ⟨2, ![1024, 512]⟩ 0 4 c W (by decide) (ix2 e n) = W (ix2 ⟨256 * c.val + e.val, he⟩ n) := by
  refine congrArg W (funext fun a => Fin.ext ?_)
  match a with
  | ⟨0, _⟩ => show c.val * 256 + e.val = 256 * c.val + e.val; omega
  | ⟨1, _⟩ => rfl

/-- A sum over the 1024 columns, by device, head and column of the head. -/
theorem sum_columns (f : Fin 1024 → EReal) :
    (∑ e, f e) = ∑ c : Fin 4, ∑ h : Fin 4, ∑ d : Fin 64, f ⟨64 * (4 * c.val + h.val) + d.val, by omega⟩ := by
  refine (sum_groups 16 64 f).trans ((sum_groups 4 4 fun a => ∑ d : Fin 64, f (finProdFinEquiv (a, d))).trans ?_)
  refine Finset.sum_congr rfl fun c _ => Finset.sum_congr rfl fun h _ => Finset.sum_congr rfl fun d _ => congrArg f (Fin.ext ?_)
  show d.val + 64 * (h.val + 4 * c.val) = 64 * (4 * c.val + h.val) + d.val
  omega

/-! ## The two results -/

section Agree
variable (x : FVec Ideal S2x256x512 .bf16) (wq : FVec Ideal ⟨2, ![512, 1024]⟩ .bf16) (k v : FVec Ideal ⟨4, ![2, 1024, 16, 64]⟩ .bf16)
  (wo : FVec Ideal ⟨2, ![1024, 512]⟩ .bf16)

/-- What head `a` of the sixteen adds to the reference's result. -/
def wholeShare (b : Fin 2) (a : Fin 16) (i : Fin 256) (n : Fin 512) : EReal :=
  ∑ d : Fin 64, (∑ j : Fin (256 + 768), soft (fun j' => refScores x wq k (ix4 b a i j')) j * v (ix4 b j a d))
    * wo (ix2 ⟨64 * a.val + d.val, by omega⟩ n)

/-- The reference's result is the sum of the sixteen heads' shares. -/
theorem refOut_heads (b : Fin 2) (i : Fin 256) (n : Fin 512) :
    refOut (refWeights (refScores x wq k)) v wo (ix3 b i n) = ∑ c : Fin 4, ∑ h : Fin 4, wholeShare x wq k v wo b ⟨4 * c.val + h.val, by omega⟩ i n := by
  rw [refOut_apply, sum_columns]
  refine Finset.sum_congr rfl fun c _ => Finset.sum_congr rfl fun h _ => Finset.sum_congr rfl fun d _ => ?_
  have ha : (64 * (4 * c.val + h.val) + d.val) / 64 = 4 * c.val + h.val := by omega
  have hd : (64 * (4 * c.val + h.val) + d.val) % 64 = d.val := by omega
  simp only [ha, hd, refWeights_apply]

/-- A head's share on device `c` is the share of head `4 c + h` in the reference, if the memory holds the blocks of the reference's arguments and
    the activations, the query weights and the keys are real numbers. -/
theorem share_eq (m : (ℓ : Loc nD τ sig) → Buf (Elt Ideal) ℓ)
    (hx : ∀ c, xs m c = x) (hq : ∀ c : Dev nD, wqs m c = Layout.block ⟨2, ![512, 256]⟩ ⟨2, ![512, 1024]⟩ 1 4 c wq (by decide))
    (hk : ks m 0 = Layout.block ⟨4, ![2, 256, 16, 64]⟩ ⟨4, ![2, 1024, 16, 64]⟩ 1 4 (0 : Dev nD) k (by decide))
    (hv : vs m 0 = Layout.block ⟨4, ![2, 256, 16, 64]⟩ ⟨4, ![2, 1024, 16, 64]⟩ 1 4 (0 : Dev nD) v (by decide))
    (ho : ∀ c : Dev nD, wos m c = Layout.block ⟨2, ![256, 512]⟩ ⟨2, ![1024, 512]⟩ 0 4 c wo (by decide))
    (rx : ∀ c i, IsReal (xs m c i)) (rq : ∀ c i, IsReal (wqs m c i)) (rk : ∀ i, IsReal (ks m 0 i))
    (c : Dev nD) (b : Fin 2) (h : Fin 4) (i : Fin 256) (n : Fin 512) :
    share m c b h i n = wholeShare x wq k v wo b ⟨4 * c.val + h.val, head_lt c h⟩ i n := by
  have hrow : ∀ j : Fin 256, refScores x wq k (ix4 b ⟨4 * c.val + h.val, head_lt c h⟩ i (Fin.castAdd 768 j)) = srow m c b h i j := by
    intro j
    rw [refScores_apply]
    unfold srow qval
    refine if_congr Iff.rfl ?_ rfl
    congr 1
    refine Finset.sum_congr rfl fun d _ => ?_
    rw [hk, kv_block]
    congr 1
    refine Finset.sum_congr rfl fun t _ => ?_
    rw [hx, hq, wq_block c wq t _ (by have := c.isLt; have := h.isLt; have := d.isLt; show 256 * c.val + (64 * h.val + d.val) < 1024; change c.val < 4 at *; omega)]
    refine congrArg (fun e => _ * wq (ix2 t e)) (Fin.ext ?_)
    show 64 * (4 * c.val + h.val) + d.val = 256 * c.val + (64 * h.val + d.val)
    omega
  have hreal : ∀ j : Fin 256, srow m c b h i j = ⊥ ∨ IsReal (srow m c b h i j) := by
    intro j
    unfold srow
    by_cases hj : j.val / 64 ≤ i.val / 64
    · rw [if_pos hj]
      exact Or.inr ((IsReal.sum fun d => (IsReal.sum fun t => (rx c _).mul (rq c _)).mul (rk _)).mul eighth_real)
    · rw [if_neg hj]; exact Or.inl rfl
  have hself : srow m c b h i i ≠ ⊥ := by
    unfold srow
    rw [if_pos le_rfl]
    obtain ⟨r, hr⟩ := (IsReal.sum fun d : Fin 64 => (IsReal.sum fun t => (rx c (ix3 b i t)).mul (rq c (ix2 t ⟨64 * h.val + d.val, col_lt h d⟩))).mul
      (rk (ix4 b i ⟨4 * c.val + h.val, head_lt c h⟩ d))).mul eighth_real
    unfold qval
    rw [hr]
    exact EReal.coe_ne_bot r
  unfold share wholeShare
  refine Finset.sum_congr rfl fun d _ => ?_
  have hcut := soft_cut (n := 256) (k := 768) (fun j' => refScores x wq k (ix4 b ⟨4 * c.val + h.val, head_lt c h⟩ i j'))
    (fun j => by
      rw [refScores_apply, if_neg]
      show ¬(256 + j.val) / 64 ≤ i.val / 64
      omega)
    (fun j => by
      rw [hrow]
      rcases hreal j with e | ⟨r, e⟩
      · rw [e]; exact bot_ne_top
      · rw [e]; exact EReal.coe_ne_top r)
    i (by rw [hrow]; exact hself) (fun j => v (ix4 b j ⟨4 * c.val + h.val, head_lt c h⟩ d))
  rw [hcut]
  simp only [hrow]
  rw [hv, ho, wo_block c wo _ n (by have := c.isLt; have := h.isLt; have := d.isLt; show 256 * c.val + (64 * h.val + d.val) < 1024; change c.val < 4 at *; omega)]
  simp only [kv_block]
  refine congrArg (fun e => _ * wo (ix2 e n)) (Fin.ext ?_)
  show 256 * c.val + (64 * h.val + d.val) = 64 * (4 * c.val + h.val) + d.val
  omega

end Agree

end Cert.Attn

end
-- ==== Proof.Windows.lean ====
/-
# What the staged arrays hold

Each of the kernel's windows is its whole array: the staged inputs are the arguments, and the result buffer ends as the
sum of the four parts.
-/
module

public import proofs.«01_k».proof.Proof.Launch
public import Idealize.ShloMosaic.Lib.Pipeline.ValueKit

@[expose] public section

noncomputable section

namespace Cert.Attn

open Cert.KernelIdeal Cert.KernelIdeal.Gen

open Idealize.ShloMosaic
open Idealize.ShloMosaic.TcCoe

variable {F : FTy → Type} [FloatOps F] [Named F]
variable (m : (ℓ : Loc nD τ sig) → Buf (Elt F) ℓ) (ρ : Dev nD → PrngReg) (c : Dev nD)

/-- The staged activations are the first argument. -/
theorem xs_eq : xs m c = m ((c : Thread nD τ).loc main_arg0) :=
  Memref.read_access_unit_zero (Elt F) main_arg0 (funext fun a => by fin_cases a <;> decide) (fun a => by fin_cases a <;> decide) _
/-- The staged query weights are the second. -/
theorem wqs_eq : wqs m c = m ((c : Thread nD τ).loc main_arg1) :=
  Memref.read_access_unit_zero (Elt F) main_arg1 (funext fun a => by fin_cases a <;> decide) (fun a => by fin_cases a <;> decide) _
/-- The staged keys are the third. -/
theorem ks_eq : ks m c = m ((c : Thread nD τ).loc main_arg2) :=
  Memref.read_access_unit_zero (Elt F) main_arg2 (funext fun a => by fin_cases a <;> decide) (fun a => by fin_cases a <;> decide) _
/-- The staged values are the fourth. -/
theorem vs_eq : vs m c = m ((c : Thread nD τ).loc main_arg3) :=
  Memref.read_access_unit_zero (Elt F) main_arg3 (funext fun a => by fin_cases a <;> decide) (fun a => by fin_cases a <;> decide) _
/-- The staged output weights are the fifth. -/
theorem wos_eq : wos m c = m ((c : Thread nD τ).loc main_arg4) :=
  Memref.read_access_unit_zero (Elt F) main_arg4 (funext fun a => by fin_cases a <;> decide) (fun a => by fin_cases a <;> decide) _

/-- The result buffer ends as the sum of the four parts. -/
theorem final_out : finalArr m ρ c (5 : Fin 6) = outP m c := by
  funext i
  exact (acct m ρ 0 c).arrAt_emb_eq_after_last (5 : Fin 6) t0_0 (by decide +kernel) i

end Cert.Attn

end
-- ==== Proof.Value.lean ====
/-
# The kernel computes the reference

The two runs end with the same result.
-/
module

public import proofs.«01_k».proof.Proof.Agree
public import proofs.«01_k».proof.Proof.Windows
public import proofs.«01_k».proof.Proof.Frames

@[expose] public section

set_option maxRecDepth 16384

noncomputable section

namespace Cert.Attn

open Cert.KernelIdeal Cert.KernelIdeal.Gen
open Idealize.ShloMosaic
open Idealize.ShloMosaic.TcCoe
open Idealize.SL.Sem

/-- Where the memory holds the blocks of the reference's arguments and meets the precondition, every device's result is the
    reference's. -/
theorem outP_eq [Cert.Pre_finite_KernelIdeal.Facts] (m : (ℓ : Loc nD τ sig) → Buf (Elt Ideal) ℓ)
    (hpre : Cert.Pre_KernelIdeal_finite_KernelIdeal m)
    (x : FVec Ideal S2x256x512 .bf16) (wq : FVec Ideal ⟨2, ![512, 1024]⟩ .bf16) (k v : FVec Ideal ⟨4, ![2, 1024, 16, 64]⟩ .bf16)
    (wo : FVec Ideal ⟨2, ![1024, 512]⟩ .bf16)
    (hb : ∀ c : Dev nD, m ((c : Thread nD τ).loc main_arg0) = x
      ∧ m ((c : Thread nD τ).loc main_arg1) = Layout.block ⟨2, ![512, 256]⟩ ⟨2, ![512, 1024]⟩ 1 4 c wq (by decide)
      ∧ m ((c : Thread nD τ).loc main_arg2) = Layout.block ⟨4, ![2, 256, 16, 64]⟩ ⟨4, ![2, 1024, 16, 64]⟩ 1 4 c k (by decide)
      ∧ m ((c : Thread nD τ).loc main_arg3) = Layout.block ⟨4, ![2, 256, 16, 64]⟩ ⟨4, ![2, 1024, 16, 64]⟩ 1 4 c v (by decide)
      ∧ m ((c : Thread nD τ).loc main_arg4) = Layout.block ⟨2, ![256, 512]⟩ ⟨2, ![1024, 512]⟩ 0 4 c wo (by decide))
    (c : Dev nD) : outP m c = refOut (refWeights (refScores x wq k)) v wo := by
  have hr : ∀ c, (∀ i, IsReal (xs m c i)) ∧ (∀ i, IsReal (wqs m c i)) ∧ ∀ i, IsReal (ks m c i) := by
    intro c
    rw [xs_eq, wqs_eq, ks_eq]
    exact given_real _ _ _ _ _ (hpre c)
  funext y
  obtain ⟨b, i, n, rfl⟩ : ∃ (b : Fin 2) (i : Fin 256) (n : Fin 512), y = ix3 b i n := ⟨y 0, y 1, y 2, (ix3_eta y).symm⟩
  refine (outP_value m c b i n).trans (Eq.trans ?_ (refOut_heads x wq k v wo b i n).symm)
  refine Finset.sum_congr rfl fun c' _ => Finset.sum_congr rfl fun h _ => ?_
  exact share_eq x wq k v wo m (fun c => (xs_eq m c).trans (hb c).1) (fun c => (wqs_eq m c).trans (hb c).2.1)
    ((ks_eq m 0).trans (hb 0).2.2.1) ((vs_eq m 0).trans (hb 0).2.2.2.1) (fun c => (wos_eq m c).trans (hb c).2.2.2.2)
    (fun c => (hr c).1) (fun c => (hr c).2.1) (hr 0).2.2 c' b h i n

/-- The kernel and the reference end with the same result, on the same arguments. -/
theorem same_result [hKernelIdeal : Cert.KernelIdeal.Facts] [hReferenceIdeal : Cert.ReferenceIdeal.Facts]
    [hPre_finite_KernelIdeal : Cert.Pre_finite_KernelIdeal.Facts] :
    Cert.algebraic_KernelIdeal_ReferenceIdeal_pre_finite_KernelIdeal :=
  fun m g m' g' hpre hb => ⟨Cert.ReferenceIdeal.Value.res_main_v38 m' 0,
    (θ_run (Cert.KernelIdeal.defs (F := Ideal)) _ _).mono
      (fun _ h c => ⟨((h.1 c (5 : Fin 6)).trans (final_out m g c)).trans
        ((outP_eq m hpre _ _ _ _ _ hb c).trans (reference_eq m' 0).symm), ends_inputs h.1 c⟩)
      (run_main (F := Ideal) m g),
    (θ_run (Cert.ReferenceIdeal.defs (F := Ideal)) _ _).mono (fun _ h => h 0) (Cert.ReferenceIdeal.Value.run (F := Ideal) m' g')⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs on one device without copies or semaphores, leaves its arguments alone, and its counters stay at zero. -/
theorem frame_reference [hReferenceIdeal : Cert.ReferenceIdeal.Facts] : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask's literal may be read as minus infinity: the table of named constants says so. -/
theorem mask_named : Cert.preserves_Kernel_KernelIdeal :=
  IdealRules.named_const.statement (κ := Cert.KernelIdeal.κ) (name := "mask") .f32 _ ⊥ rfl

/-- The claim: the frames, the idealization, and the kernel's result against the reference's. The two frames under a
    precondition are the ones without it. -/
theorem claim : Cert.Claim :=
  ⟨Cert.Kernel.Gen.facts, Cert.KernelIdeal.Gen.facts, Cert.ReferenceIdeal.Gen.facts, Cert.Attn.given_facts, Cert.Attn.given_facts_whole,
    Cert.Attn.frame_kernel (hKernel := Cert.Kernel.Gen.facts),
    Cert.Attn.frame_ideal (hKernelIdeal := Cert.KernelIdeal.Gen.facts),
    fun m g _ => Cert.Attn.frame_ideal (hKernelIdeal := Cert.KernelIdeal.Gen.facts) m g trivial,
    frame_reference (hReferenceIdeal := Cert.ReferenceIdeal.Gen.facts),
    fun m g _ => frame_reference (hReferenceIdeal := Cert.ReferenceIdeal.Gen.facts) m g trivial,
    mask_named,
    Cert.Attn.same_result (hKernelIdeal := Cert.KernelIdeal.Gen.facts) (hReferenceIdeal := Cert.ReferenceIdeal.Gen.facts)
      (hPre_finite_KernelIdeal := Cert.Attn.given_facts)⟩

end Cert.Proof

end
